-- ==== Defs.lean ====
def Pre_Kernel [hPre_ids_in_cache : Cert.Pre_ids_in_cache.Facts] (m : (ℓ : Loc Cert.Kernel.nD Cert.Kernel.τ Cert.Kernel.sig) → Buf (Elt Bits) ℓ) : Prop :=
  ∀ c : Dev Cert.Kernel.nD,
    (Cert.Pre_ids_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_cache : Cert.Pre_ids_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sin_is_cache [hPre_sin_is_cache : Cert.Pre_sin_is_cache.Facts] (m : (ℓ : Loc Cert.KernelIdeal.nD Cert.KernelIdeal.τ Cert.KernelIdeal.sig) → Buf (Elt Ideal) ℓ) : Prop :=
  ∀ c : Dev Cert.KernelIdeal.nD,
    (Cert.Pre_sin_is_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sin_is_cache [hPre_sin_is_cache : Cert.Pre_sin_is_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sin_is_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_cache : Cert.Pre_ids_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_cache : Cert.Pre_ids_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sin_is_cache [hKernelIdeal : Cert.KernelIdeal.Facts] [hPre_sin_is_cache : Cert.Pre_sin_is_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sin_is_cache m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sin_is_cache [hReferenceIdeal : Cert.ReferenceIdeal.Facts] [hPre_sin_is_cache : Cert.Pre_sin_is_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sin_is_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sin_is_cache [hKernelIdeal : Cert.KernelIdeal.Facts] [hReferenceIdeal : Cert.ReferenceIdeal.Facts] [hPre_sin_is_cache : Cert.Pre_sin_is_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sin_is_cache m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_cache : Cert.Pre_ids_in_cache.Facts) (hPre_sin_is_cache : Cert.Pre_sin_is_cache.Facts),
    quiescent_Kernel (hKernel := hKernel) (hPre_ids_in_cache := hPre_ids_in_cache)
    ∧ quiescent_KernelIdeal (hKernelIdeal := hKernelIdeal) (hPre_ids_in_cache := hPre_ids_in_cache)
    ∧ quiescent_KernelIdeal_pre_sin_is_cache (hKernelIdeal := hKernelIdeal) (hPre_sin_is_cache := hPre_sin_is_cache)
    ∧ quiescent_ReferenceIdeal (hReferenceIdeal := hReferenceIdeal)
    ∧ quiescent_ReferenceIdeal_pre_sin_is_cache (hReferenceIdeal := hReferenceIdeal) (hPre_sin_is_cache := hPre_sin_is_cache)
    ∧ preserves_Kernel_KernelIdeal
    ∧ algebraic_KernelIdeal_ReferenceIdeal_pre_sin_is_cache (hKernelIdeal := hKernelIdeal) (hReferenceIdeal := hReferenceIdeal) (hPre_sin_is_cache := hPre_sin_is_cache)
-- ==== Pre_ids_in_cache.lean ====
abbrev S4x4096x2048 : Shape := ⟨3, ![4, 4096, 2048]⟩
abbrev S4x4096 : Shape := ⟨2, ![4, 4096]⟩
abbrev S8192x128 : Shape := ⟨2, ![8192, 128]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : FVec F S4x4096x2048 .f32) (main_arg1 : IVec S4x4096 32) (main_arg2 : FVec F S8192x128 .f32) (main_arg3 : FVec F S8192x128 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 32 := constantI S_ 32 8192#32
  let main_v2 : IVec S4x4096 32 := broadcastInDim S4x4096 ![] bcast_S_S4x4096 main_c_0
  let main_v3 : IVec S4x4096 1 := cmpi .slt main_arg1 main_v2
  let main_v4 : IVec S4x4096 1 := andi main_v1 main_v3
  let main_c_1 : IVec S_ 1 := constantI S_ 1 1#1
  let main_v5 : IVec S_ 1 := (fun x v => Host.reduce IntOp.andi x v reducesTo_S4x4096_S_d0_1 h_S_) main_v4 main_c_1
  main_v5
-- ==== Pre_sin_is_cache.lean ====
abbrev S4x4096x2048 : Shape := ⟨3, ![4, 4096, 2048]⟩
abbrev S4x4096 : Shape := ⟨2, ![4, 4096]⟩
abbrev S8192x128 : Shape := ⟨2, ![8192, 128]⟩
abbrev S_ : Shape := ⟨0, ![]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S64 : S_.BroadcastsInDim S64 (![] : Fin 0 → Fin S64.rank)
  bcast_S8192_S8192x1_0 : S8192.BroadcastsInDim S8192x1 (![0] : Fin 1 → Fin S8192x1.rank)
  bcast_S64_S1x64_1 : S64.BroadcastsInDim S1x64 (![1] : Fin 1 → Fin S1x64.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  concatenates_S8192x64_S8192x64_S8192x128_d1 : Shape.Concatenates [S8192x64, S8192x64] S8192x128 1
  reducesTo_S8192x128_S_d0_1 : S8192x128.ReducesTo [0, 1] S_

variable [Facts]

def fn_part1 {F : FTy → Type} [FloatOps F] (main_arg3 : FVec F S8192x128 .f32) (main_v5 : IVec S_ 1) (main_v14 : FVec F S64 .f32) (main_v15 : FVec F S64 .f32) : IVec S_ 1 :=
  let main_v16 : FVec F S64 .f32 := Host.divf main_v15 main_v14
  let main_v17 : FVec F S8192 .f32 := sitofp .f32 (iotaInDim S8192 32 0)
  let main_v18 : FVec F S8192x1 .f32 := broadcastInDim S8192x1 ![0] bcast_S8192_S8192x1_0 main_v17
  let main_v19 : FVec F S1x64 .f32 := broadcastInDim S1x64 ![1] bcast_S64_S1x64_1 main_v16
  let main_v20 : FVec F S8192x64 .f32 := broadcastInDim S8192x64 ![0, 1] bcast_S8192x1_S8192x64_0_1 main_v18
  let main_v21 : FVec F S8192x64 .f32 := broadcastInDim S8192x64 ![0, 1] bcast_S1x64_S8192x64_0_1 main_v19
  let main_v22 : FVec F S8192x64 .f32 := mulf main_v20 main_v21
  let main_v23 : FVec F S8192x128 .f32 := (fun a b => concatenate S8192x128 1 [⟨S8192x64, a⟩, ⟨S8192x64, b⟩] concatenates_S8192x64_S8192x64_S8192x128_d1) main_v22 main_v22
  let main_v24 : FVec F S8192x128 .f32 := Host.sin main_v23
  let main_v25 : IVec S8192x128 1 := cmpf .oeq main_arg3 main_v24
  let main_c_6 : IVec S_ 1 := constantI S_ 1 1#1
  let main_v26 : IVec S_ 1 := (fun x v => Host.reduce IntOp.andi x v reducesTo_S8192x128_S_d0_1 h_S_) main_v25 main_c_6
  let main_v27 : IVec S_ 1 := andi main_v5 main_v26
  main_v27

def fn {F : FTy → Type} [FloatOps F] (main_arg0 : FVec F S4x4096x2048 .f32) (main_arg1 : IVec S4x4096 32) (main_arg2 : FVec F S8192x128 .f32) (main_arg3 : FVec F S8192x128 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 32 := constantI S_ 32 8192#32
  let main_v2 : IVec S4x4096 32 := broadcastInDim S4x4096 ![] bcast_S_S4x4096 main_c_0
  let main_v3 : IVec S4x4096 1 := cmpi .slt main_arg1 main_v2
  let main_v4 : IVec S4x4096 1 := andi main_v1 main_v3
  let main_c_1 : IVec S_ 1 := constantI S_ 1 1#1
  let main_v5 : IVec S_ 1 := (fun x v => Host.reduce IntOp.andi x v reducesTo_S4x4096_S_d0_1 h_S_) main_v4 main_c_1
  let main_v6 : FVec F S64 .f32 := sitofp .f32 (iotaInDim S64 32 0)
  let main_cst : FVec F S_ .f32 := constant S_ .f32 0x40000000#32
  let main_v7 : FVec F S64 .f32 := broadcastInDim S64 ![] bcast_S_S64 main_cst
  let main_v8 : FVec F S64 .f32 := mulf main_v7 main_v6
  let main_cst_2 : FVec F S_ .f32 := constant S_ .f32 0x00000000#32
  let main_v9 : FVec F S64 .f32 := broadcastInDim S64 ![] bcast_S_S64 main_cst_2
  let main_v10 : FVec F S64 .f32 := addf main_v9 main_v8
  let main_cst_3 : FVec F S_ .f32 := constant S_ .f32 0x43000000#32
  let main_v11 : FVec F S64 .f32 := broadcastInDim S64 ![] bcast_S_S64 main_cst_3
  let main_v12 : FVec F S64 .f32 := Host.divf main_v10 main_v11
  let main_cst_4 : FVec F S_ .f32 := constant S_ .f32 0x461C4000#32
  let main_v13 : FVec F S64 .f32 := broadcastInDim S64 ![] bcast_S_S64 main_cst_4
  let main_v14 : FVec F S64 .f32 := Host.powf main_v13 main_v12
  let main_cst_5 : FVec F S_ .f32 := constant S_ .f32 0x3F800000#32
  let main_v15 : FVec F S64 .f32 := broadcastInDim S64 ![] bcast_S_S64 main_cst_5
  fn_part1 (F := F) main_arg3 main_v5 main_v14 main_v15
-- ==== Kernel.lean ====
abbrev S4x4096x2048 : Shape := ⟨3, ![4, 4096, 2048]⟩
abbrev S4x4096 : Shape := ⟨2, ![4, 4096]⟩
abbrev S8192x128 : Shape := ⟨2, ![8192, 128]⟩
abbrev S64 : Shape := ⟨1, ![64]⟩
abbrev S_ : Shape := ⟨0, ![]⟩
abbrev S128 : Shape := ⟨1, ![128]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S16384x128 : Shape := ⟨2, ![16384, 128]⟩
abbrev S4x128 : Shape := ⟨2, ![4, 128]⟩
abbrev S4x128x128 : Shape := ⟨3, ![4, 128, 128]⟩
abbrev S4 : Shape := ⟨1, ![4]⟩
abbrev S1x128x128 : Shape := ⟨3, ![1, 128, 128]⟩
abbrev S1x128 : Shape := ⟨2, ![1, 128]⟩
abbrev S1 : Shape := ⟨1, ![1]⟩
abbrev S4x4096x128 : Shape := ⟨3, ![4, 4096, 128]⟩
abbrev S4x1024 : Shape := ⟨2, ![4, 1024]⟩
abbrev S4x1024x128 : Shape := ⟨3, ![4, 1024, 128]⟩
abbrev S4096 : Shape := ⟨1, ![4096]⟩
abbrev S4096x128 : Shape := ⟨2, ![4096, 128]⟩
abbrev S4096x1 : Shape := ⟨2, ![4096, 1]⟩
abbrev S4096x64 : Shape := ⟨2, ![4096, 64]⟩

abbrev nBuf : Table → Nat
  | .hbm => 43
  | .local .tc .vmem => 6
  | .local .scVector .vmem => 2
  | _ => 0

abbrev bufTy : (tb : Table) → Fin (nBuf tb) → BufTy
  | .hbm, ⟨0, _⟩ => ⟨S4x4096x2048, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128x1, .f32⟩
  | .hbm, ⟨25, _⟩ => ⟨S1x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S128x1, .f32⟩
  | .hbm, ⟨30, _⟩ => ⟨S1x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S128x128, .f32⟩
  | .hbm, ⟨37, _⟩ => ⟨S128x64, .f32⟩
  | .hbm, ⟨38, _⟩ => ⟨S128x64, .f32⟩
  | .hbm, ⟨39, _⟩ => ⟨S128x128, .f32⟩
  | .hbm, ⟨40, _⟩ => ⟨S16384x128, .f32⟩
  | .hbm, ⟨41, _⟩ => ⟨S4x4096x128, .f32⟩
  | .hbm, ⟨42, _⟩ => ⟨S4x4096x128, .f32⟩
  | .local .tc .vmem, ⟨0, _⟩ => ⟨S4x1024, .i32⟩
  | .local .tc .vmem, ⟨1, _⟩ => ⟨S4x1024, .i32⟩
  | .local .tc .vmem, ⟨2, _⟩ => ⟨S128x128, .f32⟩
  | .local .tc .vmem, ⟨3, _⟩ => ⟨S128x128, .f32⟩
  | .local .tc .vmem, ⟨4, _⟩ => ⟨S4x1024x128, .f32⟩
  | .local .tc .vmem, ⟨5, _⟩ => ⟨S4x1024x128, .f32⟩
  | .local .scVector .vmem, ⟨0, _⟩ => ⟨S4x128, .i32⟩
  | .local .scVector .vmem, ⟨1, _⟩ => ⟨S4x128x128, .f32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_arg2_scv : Ref sig .scVector := ⟨.hbm, 2, rfl⟩
abbrev main_arg1_scv : Ref sig .scVector := ⟨.hbm, 1, rfl⟩
abbrev main_v30_scv : Ref sig .scVector := ⟨.hbm, 40, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_126_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off2 (i : grid0.Coords) (c0_i32_37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v38 : BitVec 32 := Scalar.addi c0_i32_37 v2
  let c0_i32_42 : BitVec 32 := 0#32
  ![v38.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S4x4096 : Shape := ⟨2, ![4, 4096]⟩
abbrev S8192x128 : Shape := ⟨2, ![8192, 128]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x128, .f32⟩
  | .hbm, ⟨23, _⟩ => ⟨S4x4096x128, .i1⟩
  | .hbm, ⟨24, _⟩ => ⟨S_, .f32⟩
  | .hbm, ⟨25, _⟩ => ⟨S4x4096x128, .f32⟩
  | .hbm, ⟨26, _⟩ => ⟨S4x4096x128, .f32⟩
  | .hbm, ⟨27, _⟩ => ⟨S_, .i32⟩
  | .hbm, ⟨28, _⟩ => ⟨S4x4096, .i32⟩
  | .hbm, ⟨29, _⟩ => ⟨S4x4096, .i1⟩
  | .hbm, ⟨30, _⟩ => ⟨S_, .i32⟩
  | .hbm, ⟨31, _⟩ => ⟨S4x4096, .i32⟩
  | .hbm, ⟨32, _⟩ => ⟨S4x4096, .i32⟩
  | .hbm, ⟨33, _⟩ => ⟨S4x4096, .i32⟩
  | .hbm, ⟨34, _⟩ => ⟨S4x4096x1, .i32⟩
  | .hbm, ⟨35, _⟩ => ⟨S1, .i32⟩
  | .hbm, ⟨36, _⟩ => ⟨S_, .i32⟩
  | .hbm, ⟨37, _⟩ => ⟨S4x4096x1, .i32⟩
  | .hbm, ⟨38, _⟩ => ⟨S4x4096x1, .i1⟩
  | .hbm, ⟨39, _⟩ => ⟨S1x1x1, .i32⟩
  | .hbm, ⟨40, _⟩ => ⟨S4x4096x1, .i32⟩
  | .hbm, ⟨41, _⟩ => ⟨S4x4096x1, .i1⟩
  | .hbm, ⟨42, _⟩ => ⟨S4x4096x1, .i1⟩
  | .hbm, ⟨43, _⟩ => ⟨S_, .i1⟩
  | .hbm, ⟨44, _⟩ => ⟨S4x4096, .i1⟩
  | .hbm, ⟨45, _⟩ => ⟨S4x4096x128, .f32⟩
  | .hbm, ⟨46, _⟩ => ⟨S4x4096x128, .i1⟩
  | .hbm, ⟨47, _⟩ => ⟨S_, .f32⟩
  | .hbm, ⟨48, _⟩ => ⟨S4x4096x128, .f32⟩
  | .hbm, ⟨49, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Proof.Common.lean ====
/-
  The program as the launch theorem for SparseCore programs sees it: the calls, the body table, the resource algebra,
  the arrays by name, and what one vector subcore is handed and hands back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program less its SparseCore calls. -/
abbrev ΛP : Labels := Pipeline.Sig Λ₀ (Fin 1) fun p => (pcfgs (F := F) p).Adm
/-- The one SparseCore call. -/
abbrev K : SparseCore.Cfg τ sig (ΛP (F := F)) 1 := sc (F := F)
/-- The body table below the SparseCore call. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct, scoped where they must not be, and no buffer of a SparseCore is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the grid pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component of the resource algebra, -/
def EH : Emb UH (MT nD τ sig (HIx 1) (Elt F) ℕ UU ℕ) := embL
/-- and the grid pipeline's. -/
def EP : Emb UP (MT nD τ sig (HIx 1) (Elt F) ℕ UU ℕ) := (Emb.inl : Emb UP (UP × Counters)).trans embR

instance EH_landsIn : (EH : Emb UH 𝕄).LandsIn (upEmb : UEmb _ 𝕄) := by unfold EH; infer_instance
instance EP_landsIn : (EP : Emb UP 𝕄).LandsIn (upEmb : UEmb _ 𝕄) := by unfold EP embR; infer_instance

variable (m : (ℓ : Loc nD τ sig) → Buf (Elt F) ℓ)

/-- The position array, the cosine table and the gathered rows, on device `d`. -/
abbrev iLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v30

end Cert.Proof.Rope

end
-- ==== Proof.Trig.lean ====
/-
  The body of the TensorCore's grid kernel, run once over any four staging buffers: it leaves the first three as they were
  and the fourth at the sines of the positions it found.
-/
module

public import proofs.«01_k».proof.Proof.Common
public import Idealize.ShloMosaic.Lib.Pipeline.Regions
public import Idealize.ShloMosaic.Lib.Pipeline.RegionArraysS
public import Idealize.ShloMosaic.Lib.Pipeline.FrameBody
public import Idealize.ShloMosaic.Lib.Pipeline.ValueKit
public import Idealize.ShloMosaic.Lib.Pipeline.Value

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type}

local notation "𝕄" => MT nD τ sig (HIx 1) (Elt F) ℕ UU ℕ

theorem zero2 : (![0, 0] : Fin 2 → Nat) = fun _ => 0 := by funext a; fin_cases a <;> rfl
theorem zero3 : (![0, 0, 0] : Fin 3 → Nat) = fun _ => 0 := by funext a; fin_cases a <;> rfl

/-- The body, from the positions `X0`, the two angle tables `X1`, `X2` and an output buffer holding anything: the first three
    stay, the output holds `k1_pay1 X0 X1 X2`. -/
theorem trig_run [FloatOps F] (c : Dev nD) (i : grid1.Coords)
    (M0 : Memref sig .tc .vmem S4x1024 .i32) (h0 : M0.IsWhole) (M1 : Memref sig .tc .vmem S128x128 .f32) (h1 : M1.IsWhole)
    (M2 : Memref sig .tc .vmem S128x128 .f32) (h2 : M2.IsWhole) (M3 : Memref sig .tc .vmem S4x1024x128 .f32) (h3 : M3.IsWhole)
    (X0 : S4x1024.Idx → Elt F .i32) (X1 X2 : S128x128.Idx → Elt F .f32) (Y : S4x1024x128.Idx → Elt F .f32) (E : Set ℕ) (Q : PUnit → sProp 𝕄) :
    iprop(owns (T c) M0 fullShare X0 ∗ owns (T c) M1 fullShare X1 ∗ owns (T c) M2 fullShare X2 ∗ owns (T c) M3 fullShare Y
        ∗ (iprop(owns (T c) M0 fullShare X0 ∗ owns (T c) M1 fullShare X1 ∗ owns (T c) M2 fullShare X2
            ∗ owns (T c) M3 fullShare (k1_pay1 X0 X1 X2)) -∗ Q ⟨⟩))
      ⊢ wp frame (wpE (defs₀ (F := F)) 𝒱₀ (T c) none) E (cc1__trig_block i M0 h0 M1 h1 M2 h2 M3 h3) Q := by
  unfold owns
  iintro ⟨⟨%f0, %e0, H0⟩, ⟨%f1, %e1, H1⟩, ⟨%f2, %e2, H2⟩, ⟨%f3, -, H3⟩, Hk⟩
  simp only [cc1__trig_block_eq_skeleton]; unfold cc1__trig_block_skel
  sl_exec
  sl_step
  iapply Hk
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  iexists _; isplitr; swap
  · iexact H3
  ipureintro
  refine (View.read_writes_eq_canon _ _ _ (fun y => ⟨_, List.mem_singleton_self _, View.mem_set_unit_zero zero3 inb_S4x1024x128_S4x1024x128_0_0_0 y⟩)).trans ?_
  rw [View.canon_unit_zero zero3]
  simp only [View.readAt_eq_ld, e0, e1, e2]
  rw [View.ld_unit_zero zero2 inb_S4x1024_S4x1024_0_0 X0, View.ld_unit_zero zero2 inb_S128x128_S128x128_0_0 X1, View.ld_unit_zero zero2 inb_S128x128_S128x128_0_0 X2]

/-! ## The proof data of the grid pipeline, entered at a valuation of the device's buffers -/

variable [FloatOps F] (W : Dev nD → Valuation τ sig (Elt F))

/-- The block of window `w`'s array the pipeline stages at point `t`. -/
abbrev blk (c : Dev nD) (w : Fin 4) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The proof data: the four arrays as entered; the inputs' staging buffers at their blocks; the output's at the sines of the
    positions of its block; nothing owed. -/
def dat (c : Dev nD) : Dat τ (Elt F) (HIx 1) ℕ UU ℕ cfg1 c where
  A w := W c (Proc.devRef .tc (Pipeline.arrRef spec1 w))
  after w t := match w with
    | ⟨0, _⟩ => blk W c 0 t
    | ⟨1, _⟩ => blk W c 1 t
    | ⟨2, _⟩ => blk W c 2 t
    | ⟨3, _⟩ => k1_pay1 (blk W c 0 t) (blk W c 1 t) (blk W c 2 t)
  Φ _ := BI.emp
  q _ := fullShare
  owed _ := 0

theorem before_0 (c : Dev nD) (t : Fin cfg1.N) (d) : (dat W c).before 0 t d = blk W c 0 t :=
  (dat W c).before_in_eq_fetched 0 rfl (fun _ => rfl) (fun _ _ _ => rfl) (fun _ => rfl) t d
theorem before_1 (c : Dev nD) (t : Fin cfg1.N) (d) : (dat W c).before 1 t d = blk W c 1 t :=
  (dat W c).before_in_eq_fetched 1 rfl (fun _ => rfl) (fun _ _ _ => rfl) (fun _ => rfl) t d
theorem before_2 (c : Dev nD) (t : Fin cfg1.N) (d) : (dat W c).before 2 t d = blk W c 2 t :=
  (dat W c).before_in_eq_fetched 2 rfl (fun _ => rfl) (fun _ _ _ => rfl) (fun _ => rfl) t d

/-- The body obligation the pipeline asks of each point. -/
theorem body_obligation (c : Dev nD) : BodyObligation (dat W c) (defs₀ (F := F)) 𝒱₀ none Set.univ := fun t => by
  rw [bigSep_W1, bigSep_W1]
  rw [show (dat W c).Φ t.castSucc = (dat W c).Φ t.succ from rfl, show (dat W c).owesAt none t.castSucc = (dat W c).owesAt none t.succ from rfl]
  iintro ⟨HΦ, HO, ⟨%d0, H0⟩, ⟨%d1, H1⟩, ⟨%d2, H2⟩, ⟨%d3, H3⟩⟩
  rw [before_0, before_1, before_2]
  iapply (trig_run (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (blk W c 0 t) (blk W c 1 t) (blk W c 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

end Cert.Proof.Rope

end
-- ==== Proof.Region.lean ====
/-
  The TensorCore's grid kernel as one step of @main, from the device's unscoped buffers at any valuation.
-/
module

public import proofs.«01_k».proof.Proof.Trig

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type}

local notation "𝕄" => MT nD τ sig (HIx 1) (Elt F) ℕ UU ℕ

variable [FloatOps F] (W : Dev nD → Valuation τ sig (Elt F))

/-- No pipeline has a prefetched table. -/
abbrev adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | 0 => dat W

/-- The TensorCore's unscoped buffers. -/
abbrev ucRefs : Finset (DevRef τ sig) := Pipeline.ucRefs τ sig

theorem arrs_sub : Pipeline.arrRefs (pcfgs (F := F) 0).spec ⊆ ucRefs :=
  Pipeline.arrRefs_sub_ucRefs _ (show ∀ w : Fin 4, (Pipeline.arrRef spec1 w).isScoped = false by decide)

/-- The grid kernel between two thread states that hold every unscoped buffer. -/
def reg : Pipeline.RegionSeg (pcfgs (F := F)) adm (pdats W) none defs₀ 𝒱₀ (K (F := F)).L ((K (F := F)).lev (N := 1) (nD := nD)) 0 :=
  Pipeline.RegionSeg.ofHeldIn (pcfgs (F := F)) adm (pdats W) none defs₀ 𝒱₀ (K (F := F)).L ((K (F := F)).lev (N := 1) (nD := nD)) 0
    (fun _ => 0) ucRefs (fun _ => BI.emp) (fun _ => BI.emp) launch1.toP rfl
    (fun c => (body_obligation W c).loose) (fun _ _ => rfl) (fun _ => rfl) (fun c w => (dat W c).share_full (fun _ => rfl) w)
    (fun c => by
      show iprop(Pipeline.scopedRest spec1 c ∗ BI.emp) ⊢ (BI.emp : sProp 𝕄)
      iintro ⟨-, H⟩
      iexact H)
    (fun c => by
      show (BI.emp : sProp 𝕄) ⊢ iprop(Pipeline.scopedRest spec1 c ∗ BI.emp)
      rw [scopedRest1_eq]
      iintro H
      isplitl [H] <;> iempintro)
    (fun _ => 0)
    ⟨fun _ _ _ => Finset.mem_univ _, fun _ _ _ => le_rfl, fun _ _ _ h => absurd h (Nat.lt_irrefl 0)⟩
    (fun _ => BI.emp) W (fun _ _ => rfl)

/-- What the grid kernel leaves the device's buffers at. -/
abbrev left (c : Dev nD) : Valuation τ sig (Elt F) := Pipeline.afterRegion (pdats W 0 c) (W c)

/-- The ghost state the grid kernel's staging cells start from. -/
abbrev ghost (c : Dev nD) : sProp 𝕄 :=
  iprop(Pipeline.cellsGhost (Pipeline.pin (pcfgs (F := F)) adm) EP 0 c ∗ Pipeline.toksInit (Pipeline.pin (pcfgs (F := F)) adm) EP 0 c)

/-- Entering the grid kernel. -/
theorem reg_pre (c : Dev nD) :
    iprop(StableHlo.held (T c) ucRefs (W c) ∗ ((∃ Wd, owes (T c) (0 : CellTallies nD τ sig (HIx 1)) Wd) ∗ BI.emp ∗ BI.emp)) ⊢ (reg W).pre c := by
  unfold reg
  refine BI.Entails.trans ?_ (Pipeline.RegionSeg.ofHeldIn_pre arrs_sub c)
  exact BI.Entails.refl _

/-- Leaving the grid kernel. -/
theorem reg_post (c : Dev nD) :
    (reg W).post c ⊢ iprop(StableHlo.held (T c) ucRefs (left W c) ∗ ((∃ Wd, owes (T c) (0 : CellTallies nD τ sig (HIx 1)) Wd) ∗ BI.emp ∗ BI.emp)) := by
  unfold reg
  exact Pipeline.RegionSeg.ofHeldIn_post arrs_sub c

/-- The call of the grid kernel under its own table of labels. -/
def entryProg : Prog (TpuEff nD τ sig (Elt F) (ΛP (F := F)) .tc) PUnit := .op (.customCall (Pipeline.entry 0) ()) fun x => .ret x

omit [FloatOps F] in
/-- The call in @main is that call lifted. -/
theorem lift_entry :
    (Prog.lift (.customCall (SparseCore.inner (Pipeline.entry 0)) ()) : Prog (TpuEff nD τ sig (Elt F) (SparseCore.Sig (ΛP (F := F)) 1) .tc) PUnit)
      = SparseCore.liftProg entryProg := rfl

/-- The call of the grid kernel in @main: from every unscoped buffer at `W` to every unscoped buffer at `left W`. -/
theorem region_step [∀ e, Nonempty (Elt F e)] (c : Dev nD) (Q : PUnit → sProp 𝕄) :
    iprop((iprop(boundary (T c) ∗ StableHlo.held (T c) ucRefs (left W c) ∗ ∃ Wd, owes (T c) (0 : CellTallies nD τ sig (HIx 1)) Wd) -∗ Q ⟨⟩)
        ∗ boundary (T c) ∗ StableHlo.held (T c) ucRefs (W c) ∗ (∃ Wd, owes (T c) (0 : CellTallies nD τ sig (HIx 1)) Wd)
        ∗ levAts (K (F := F)).L ((K (F := F)).lev (N := 1) (nD := nD)) ∗ ghost c)
      ⊢ wp frame (wpE ((K (F := F)).defs (D (F := F))) 𝒱 (T c) none) Set.univ
          (Prog.lift (.customCall (SparseCore.inner (Pipeline.entry 0)) ())) Q := by
  rw [lift_entry]
  refine BI.Entails.trans ?_ ((K (F := F)).wp_liftProg (D (F := F)) 𝒱 (T c) Set.univ none entryProg Q)
  unfold entryProg
  have hR := Pipeline.RegionSeg.wp (pcfgs (F := F)) adm (pdats W) none cellOf_inj EP defs₀ 𝒱₀ _ _ (reg W) c none (fun _ h => nomatch h) (fun x => .ret x) Q
  refine BI.Entails.trans ?_ hR
  show iprop((iprop(boundary (T c) ∗ StableHlo.held (T c) ucRefs (left W c) ∗ ∃ Wd, owes (T c) (0 : CellTallies nD τ sig (HIx 1)) Wd) -∗ Q ⟨⟩)
        ∗ boundary (T c) ∗ StableHlo.held (T c) ucRefs (W c) ∗ (∃ Wd, owes (T c) (0 : CellTallies nD τ sig (HIx 1)) Wd)
        ∗ levAts (K (F := F)).L ((K (F := F)).lev (N := 1) (nD := nD)) ∗ ghost c)
    ⊢ iprop((iprop(boundary (T c) ∗ (reg W).post c) -∗ wp frame (wpE (D (F := F)) 𝒱 (T c) none) Set.univ (Prog.ret ⟨⟩) Q)
        ∗ boundary (T c) ∗ (reg W).pre c ∗ levAts (K (F := F)).L ((K (F := F)).lev (N := 1) (nD := nD)) ∗ ghost c)
  iintro ⟨Hk, Hb, Hh, HO, Hl, Hg, Ht⟩
  isplitl [Hk]
  · iintro ⟨Hb, Hp⟩
    rw [wp_ret]; imodintro
    ihave Hp := (reg_post W c) $$ Hp
    icases Hp with ⟨Hh, HO, -, -⟩
    iapply Hk
    isplitl [Hb]; · iexact Hb
    isplitl [Hh]; · iexact Hh
    iexact HO
  isplitl [Hb]; · iexact Hb
  isplitl [Hh HO]
  · iapply (reg_pre W c)
    isplitl [Hh]; · iexact Hh
    isplitl [HO]; · iexact HO
    isplitl <;> iempintro
  isplitl [Hl]; · iexact Hl
  isplitl [Hg]; · iexact Hg
  iexact Ht

end Cert.Proof.Rope

end
-- ==== Proof.Host.lean ====
/-
  The host lines of @main before the SparseCore call and after the grid kernel: the operations in order, the buffers
  they touch, and what they leave in the two tables of angles.
-/
module

public import proofs.«01_k».proof.Proof.Region

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type}

local notation "𝕄" => MT nD τ sig (HIx 1) (Elt F) ℕ UU ℕ

variable [FloatOps F]

/-- The host operations before the SparseCore call, in @main's order. -/
def preOps : List (HloOp τ sig (Elt F)) :=
  [ StableHlo.nullary main_v0 (sitofp .f32 (iotaInDim S64 32 0)),
    StableHlo.nullary main_cst (constant S_ .f32 0x40000000#32),
    StableHlo.unary main_cst main_v1 (broadcastInDim S64 ![] bcast_S_S64 : (⟨S_, .f32⟩ : BufTy).Contents (Elt F) → (⟨S64, .f32⟩ : BufTy).Contents (Elt F)),
    StableHlo.binary main_v1 main_v0 main_v2 (mulf : (⟨S64, .f32⟩ : BufTy).Contents (Elt F) → (⟨S64, .f32⟩ : BufTy).Contents (Elt F) → (⟨S64, .f32⟩ : BufTy).Contents (Elt F)),
    StableHlo.nullary main_cst_0 (constant S_ .f32 0x00000000#32),
    StableHlo.unary main_cst_0 main_v3 (broadcastInDim S64 ![] bcast_S_S64 : (⟨S_, .f32⟩ : BufTy).Contents (Elt F) → (⟨S64, .f32⟩ : BufTy).Contents (Elt F)),
    StableHlo.binary main_v3 main_v2 main_v4 (addf : (⟨S64, .f32⟩ : BufTy).Contents (Elt F) → (⟨S64, .f32⟩ : BufTy).Contents (Elt F) → (⟨S64, .f32⟩ : BufTy).Contents (Elt F)),
    StableHlo.nullary main_cst_1 (constant S_ .f32 0x43000000#32),
    StableHlo.unary main_cst_1 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_cst_2 (constant S_ .f32 0x461C4000#32),
    StableHlo.unary main_cst_2 main_v7 (broadcastInDim S64 ![] bcast_S_S64 : (⟨S_, .f32⟩ : BufTy).Contents (Elt F) → (⟨S64, .f32⟩ : BufTy).Contents (Elt F)),
    StableHlo.binary main_v7 main_v6 main_v8 (Host.powf : (⟨S64, .f32⟩ : BufTy).Contents (Elt F) → (⟨S64, .f32⟩ : BufTy).Contents (Elt F) → (⟨S64, .f32⟩ : BufTy).Contents (Elt F)),
    StableHlo.nullary main_cst_3 (constant S_ .f32 0x3F800000#32),
    StableHlo.unary main_cst_3 main_v9 (broadcastInDim S64 ![] bcast_S_S64 : (⟨S_, .f32⟩ : BufTy).Contents (Elt F) → (⟨S64, .f32⟩ : BufTy).Contents (Elt F)),
    StableHlo.binary main_v9 main_v8 main_v10 (Host.divf : (⟨S64, .f32⟩ : BufTy).Contents (Elt F) → (⟨S64, .f32⟩ : BufTy).Contents (Elt F) → (⟨S64, .f32⟩ : BufTy).Contents (Elt F)),
    StableHlo.nullary main_v11 (sitofp .f32 (iotaInDim S128 32 0)),
    StableHlo.nullary main_cst_4 (constant S_ .f32 0x42800000#32),
    StableHlo.unary main_cst_4 main_v12 (broadcastInDim S128 ![] bcast_S_S128 : (⟨S_, .f32⟩ : BufTy).Contents (Elt F) → (⟨S128, .f32⟩ : BufTy).Contents (Elt F)),
    StableHlo.binary main_v12 main_v11 main_v13 (mulf : (⟨S128, .f32⟩ : BufTy).Contents (Elt F) → (⟨S128, .f32⟩ : BufTy).Contents (Elt F) → (⟨S128, .f32⟩ : BufTy).Contents (Elt F)),
    StableHlo.unary main_v13 main_v14 (broadcastInDim S128x1 ![0] bcast_S128_S128x1_0 : (⟨S128, .f32⟩ : BufTy).Contents (Elt F) → (⟨S128x1, .f32⟩ : BufTy).Contents (Elt F)),
    StableHlo.unary main_v10 main_v15 (broadcastInDim S1x64 ![1] bcast_S64_S1x64_1 : (⟨S64, .f32⟩ : BufTy).Contents (Elt F) → (⟨S1x64, .f32⟩ : BufTy).Contents (Elt F)),
    StableHlo.unary main_v14 main_v16 (broadcastInDim S128x64 ![0, 1] bcast_S128x1_S128x64_0_1 : (⟨S128x1, .f32⟩ : BufTy).Contents (Elt F) → (⟨S128x64, .f32⟩ : BufTy).Contents (Elt F)),
    StableHlo.unary main_v15 main_v17 (broadcastInDim S128x64 ![0, 1] bcast_S1x64_S128x64_0_1 : (⟨S1x64, .f32⟩ : BufTy).Contents (Elt F) → (⟨S128x64, .f32⟩ : BufTy).Contents (Elt F)),
    StableHlo.binary main_v16 main_v17 main_v18 (mulf : (⟨S128x64, .f32⟩ : BufTy).Contents (Elt F) → (⟨S128x64, .f32⟩ : BufTy).Contents (Elt F) → (⟨S128x64, .f32⟩ : BufTy).Contents (Elt F)),
    StableHlo.unary main_v11 main_v19 (broadcastInDim S128x1 ![0] bcast_S128_S128x1_0 : (⟨S128, .f32⟩ : BufTy).Contents (Elt F) → (⟨S128x1, .f32⟩ : BufTy).Contents (Elt F)),
    StableHlo.unary main_v10 main_v20 (broadcastInDim S1x64 ![1] bcast_S64_S1x64_1 : (⟨S64, .f32⟩ : BufTy).Contents (Elt F) → (⟨S1x64, .f32⟩ : BufTy).Contents (Elt F)),
    StableHlo.unary main_v19 main_v21 (broadcastInDim S128x64 ![0, 1] bcast_S128x1_S128x64_0_1 : (⟨S128x1, .f32⟩ : BufTy).Contents (Elt F) → (⟨S128x64, .f32⟩ : BufTy).Contents (Elt F)),
    StableHlo.unary main_v20 main_v22 (broadcastInDim S128x64 ![0, 1] bcast_S1x64_S128x64_0_1 : (⟨S1x64, .f32⟩ : BufTy).Contents (Elt F) → (⟨S128x64, .f32⟩ : BufTy).Contents (Elt F)),
    StableHlo.binary main_v21 main_v22 main_v23 (mulf : (⟨S128x64, .f32⟩ : BufTy).Contents (Elt F) → (⟨S128x64, .f32⟩ : BufTy).Contents (Elt F) → (⟨S128x64, .f32⟩ : BufTy).Contents (Elt F)),
    StableHlo.unary main_v18 main_v24 (Host.sin : (⟨S128x64, .f32⟩ : BufTy).Contents (Elt F) → (⟨S128x64, .f32⟩ : BufTy).Contents (Elt F)),
    StableHlo.unary main_v18 main_v25 (Host.cos : (⟨S128x64, .f32⟩ : BufTy).Contents (Elt F) → (⟨S128x64, .f32⟩ : BufTy).Contents (Elt F)),
    StableHlo.binary main_v24 main_v25 main_v26 ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)),
    StableHlo.unary main_v23 main_v27 (Host.sin : (⟨S128x64, .f32⟩ : BufTy).Contents (Elt F) → (⟨S128x64, .f32⟩ : BufTy).Contents (Elt F)),
    StableHlo.unary main_v23 main_v28 (Host.cos : (⟨S128x64, .f32⟩ : BufTy).Contents (Elt F) → (⟨S128x64, .f32⟩ : BufTy).Contents (Elt F)),
    StableHlo.binary main_v27 main_v28 main_v29 ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)) ]

/-- The host operation after the grid kernel: the gathered rows, reshaped to the result's shape. -/
def lastOp : HloOp τ sig (Elt F) := StableHlo.reshape main_v30 main_v32 (rfl : (.f32 : EltTy) = .f32) shapeCasts_S16384x128_S4x4096x128

/-- @main is the host operations, the SparseCore call, the grid kernel, the last reshape. -/
theorem main_eq (d : Dev nD) :
    main (F := F) d = (StableHlo.seq preOps >>= fun _ => ((sc (F := F)).run d 0 >>= fun _ =>
      (Prog.lift (.customCall (SparseCore.inner (Pipeline.entry 0)) ()) >>= fun _ =>
        (hlo rfl lastOp (fun _ => .ret (⟨⟩ : PUnit)) >>= fun _ => pure ⟨⟩)))) := rfl

theorem preOps_sub : ∀ op ∈ (preOps : List (HloOp τ sig (Elt F))), op.bufs ⊆ ucRefs := by
  intro op h
  refine Pipeline.sub_ucRefs op ?_
  revert op
  refine List.forall_iff_forall_mem.mp ?_
  refine ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

theorem preOps_fresh : ∀ op ∈ (preOps : List (HloOp τ sig (Elt F))), op.fresh = ∅ := by
  refine List.forall_iff_forall_mem.mp ?_
  refine ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem lastOp_sub : (lastOp : HloOp τ sig (Elt F)).bufs ⊆ ucRefs := Pipeline.sub_ucRefs _ (StableHlo.reshape_bufs_sub ..)

/-- The host operations leave a buffer that none of them writes as it was. -/
theorem preOps_keeps (X : Valuation τ sig (Elt F)) (b : Ref sig .tc)
    (hb : b ∉ [main_v0, main_cst, main_v1, main_v2, main_cst_0, main_v3, main_v4, main_cst_1, main_v5, main_v6, main_cst_2, main_v7, main_v8, main_cst_3, main_v9, main_v10, main_v11, main_cst_4, main_v12, main_v13, main_v14, main_v15, main_v16, main_v17, main_v18, main_v19, main_v20, main_v21, main_v22, main_v23, main_v24, main_v25, main_v26, main_v27, main_v28, main_v29]) : after preOps X (Proc.devRef .tc b) = X (Proc.devRef .tc b) := by
  refine StableHlo.after_of_forall_not_mem preOps X ?_
  simp only [List.mem_cons, List.not_mem_nil, _root_.or_false, not_or] at hb
  obtain ⟨h0, h1, h2, h3, h4, h5, h6, h7, h8, h9, h10, h11, h12, h13, h14, h15, h16, h17, h18, h19, h20, h21, h22, h23, h24, h25, h26, h27, h28, h29, h30, h31, h32, h33, h34, h35⟩ := hb
  refine List.forall_iff_forall_mem.mp ?_
  refine ⟨fun h => StableHlo.devRef_ne_of_ne h0 (Finset.mem_singleton.mp h), fun h => StableHlo.devRef_ne_of_ne h1 (Finset.mem_singleton.mp h), fun h => StableHlo.devRef_ne_of_ne h2 (Finset.mem_singleton.mp h), fun h => StableHlo.devRef_ne_of_ne h3 (Finset.mem_singleton.mp h), fun h => StableHlo.devRef_ne_of_ne h4 (Finset.mem_singleton.mp h), fun h => StableHlo.devRef_ne_of_ne h5 (Finset.mem_singleton.mp h), fun h => StableHlo.devRef_ne_of_ne h6 (Finset.mem_singleton.mp h), fun h => StableHlo.devRef_ne_of_ne h7 (Finset.mem_singleton.mp h), fun h => StableHlo.devRef_ne_of_ne h8 (Finset.mem_singleton.mp h), fun h => StableHlo.devRef_ne_of_ne h9 (Finset.mem_singleton.mp h), fun h => StableHlo.devRef_ne_of_ne h10 (Finset.mem_singleton.mp h), fun h => StableHlo.devRef_ne_of_ne h11 (Finset.mem_singleton.mp h), fun h => StableHlo.devRef_ne_of_ne h12 (Finset.mem_singleton.mp h), fun h => StableHlo.devRef_ne_of_ne h13 (Finset.mem_singleton.mp h), fun h => StableHlo.devRef_ne_of_ne h14 (Finset.mem_singleton.mp h), fun h => StableHlo.devRef_ne_of_ne h15 (Finset.mem_singleton.mp h), fun h => StableHlo.devRef_ne_of_ne h16 (Finset.mem_singleton.mp h), fun h => StableHlo.devRef_ne_of_ne h17 (Finset.mem_singleton.mp h), fun h => StableHlo.devRef_ne_of_ne h18 (Finset.mem_singleton.mp h), fun h => StableHlo.devRef_ne_of_ne h19 (Finset.mem_singleton.mp h), fun h => StableHlo.devRef_ne_of_ne h20 (Finset.mem_singleton.mp h), fun h => StableHlo.devRef_ne_of_ne h21 (Finset.mem_singleton.mp h), fun h => StableHlo.devRef_ne_of_ne h22 (Finset.mem_singleton.mp h), fun h => StableHlo.devRef_ne_of_ne h23 (Finset.mem_singleton.mp h), fun h => StableHlo.devRef_ne_of_ne h24 (Finset.mem_singleton.mp h), fun h => StableHlo.devRef_ne_of_ne h25 (Finset.mem_singleton.mp h), fun h => StableHlo.devRef_ne_of_ne h26 (Finset.mem_singleton.mp h), fun h => StableHlo.devRef_ne_of_ne h27 (Finset.mem_singleton.mp h), fun h => StableHlo.devRef_ne_of_ne h28 (Finset.mem_singleton.mp h), fun h => StableHlo.devRef_ne_of_ne h29 (Finset.mem_singleton.mp h), fun h => StableHlo.devRef_ne_of_ne h30 (Finset.mem_singleton.mp h), fun h => StableHlo.devRef_ne_of_ne h31 (Finset.mem_singleton.mp h), fun h => StableHlo.devRef_ne_of_ne h32 (Finset.mem_singleton.mp h), fun h => StableHlo.devRef_ne_of_ne h33 (Finset.mem_singleton.mp h), fun h => StableHlo.devRef_ne_of_ne h34 (Finset.mem_singleton.mp h), fun h => StableHlo.devRef_ne_of_ne h35 (Finset.mem_singleton.mp h)⟩

end Cert.Proof.Rope

end
-- ==== Proof.Tile.lean ====
/-
  The SparseCore call's body on one vector subcore: it copies its column block of the positions in, gathers four slabs
  of table rows by them, and copies each slab out to its block of rows of the gathered array.
-/
module

public import proofs.«01_k».proof.Proof.Common

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg2_scv : Memref Cert.KernelIdeal.sig Kind.scVector Space.hbm Cert.KernelIdeal.S8192x128 EltTy.f32)
local notation "iV" => (Memref.whole Cert.KernelIdeal.main_arg1_scv : Memref Cert.KernelIdeal.sig Kind.scVector Space.hbm Cert.KernelIdeal.S4x4096 EltTy.i32)
local notation "oV" => (Memref.whole Cert.KernelIdeal.main_v30_scv : Memref Cert.KernelIdeal.sig Kind.scVector Space.hbm Cert.KernelIdeal.S16384x128 EltTy.f32)
local notation "lV" => (Memref.whole Cert.KernelIdeal.cc0_scratch0 : Memref Cert.KernelIdeal.sig Kind.scVector Space.vmem Cert.KernelIdeal.S4x128 EltTy.i32)
local notation "gV" => (Memref.whole Cert.KernelIdeal.cc0_scratch1 : Memref Cert.KernelIdeal.sig Kind.scVector Space.vmem Cert.KernelIdeal.S4x128x128 EltTy.f32)

variable (m : (ℓ : Loc nD τ sig) → Buf (Elt F) ℓ)

/-- What the proof asks of the launch memory: every position is a row of the table. -/
def PreOK : Prop := ∀ (d : Dev nD) (j : S4x4096.Idx), (m (iLoc d) j).toNat < 8192

/-- A place of the table and a place of the positions, by coordinates. -/
def tix (r : Fin 8192) (c : Fin 128) : S8192x128.Idx := fun | 0 => r | 1 => c
def pix (r : Fin 4) (n : Fin 4096) : S4x4096.Idx := fun | 0 => r | 1 => n
theorem eq_tix (j : S8192x128.Idx) (r : Fin 8192) (c : Fin 128) (h0 : (j 0).val = r.val) (h1 : (j 1).val = c.val) : j = tix r c := by
  funext a; apply Fin.ext
  match a with
  | 0 => exact h0
  | 1 => exact h1
theorem eq_pix (j : S4x4096.Idx) (r : Fin 4) (n : Fin 4096) (h0 : (j 0).val = r.val) (h1 : (j 1).val = n.val) : j = pix r n := by
  funext a; apply Fin.ext
  match a with
  | 0 => exact h0
  | 1 => exact h1

/-- The gathered array: row `4096·r + n` is the table's row at position `(r, n)`. -/
def gat (d : Dev nD) : Buf (Elt F) (oLoc d) := fun x : S16384x128.Idx =>
  (m (tLoc d) : S8192x128.Idx → Elt F .f32)
    (tix ⟨((m (iLoc d) : S4x4096.Idx → BitVec 32)
        (pix ⟨(x 0).val / 4096, by have : (x 0).val < 16384 := (x 0).isLt; omega⟩ ⟨(x 0).val % 4096, Nat.mod_lt _ (by decide)⟩)).toNat % 8192,
        Nat.mod_lt _ (by decide)⟩ ⟨(x 1).val, (x 1).isLt⟩)

/-- That, at a row and column given as numbers, with every position a row of the table. -/
theorem gat_eq (hpre : PreOK m) (d : Dev nD) (x : S16384x128.Idx) (r : Fin 4) (n : Fin 4096) (c : Fin 128)
    (h0 : (x 0).val = 4096 * r.val + n.val) (h1 : (x 1).val = c.val) :
    gat m d x = (m (tLoc d) : S8192x128.Idx → Elt F .f32) (tix ⟨((m (iLoc d) : S4x4096.Idx → BitVec 32) (pix r n)).toNat, hpre d _⟩ c) := by
  have hn := n.isLt
  unfold gat
  refine congrArg (m (tLoc d) : S8192x128.Idx → Elt F .f32) (eq_tix _ _ _ ?_ h1)
  refine (Nat.mod_eq_of_lt (hpre d _)).trans ?_
  refine congrArg (fun j : S4x4096.Idx => ((m (iLoc d) : S4x4096.Idx → BitVec 32) j).toNat) (eq_pix _ _ _ ?_ ?_)
  · show (x 0).val / 4096 = r.val
    rw [h0]; omega
  · show (x 0).val % 4096 = n.val
    rw [h0]; omega

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The tile's column block of the positions, and its four row blocks of the output, as the body slices them. -/
abbrev iWin (L : grid0.Coords) : Memref sig .scVector .hbm S4x128 .i32 :=
  (iV).slice (Rect.unit (s := S4x4096) (k0_off1 L) S4x128.size (k0_off1_inb L)) (fun _ => rfl)
abbrev oBlk (L : grid0.Coords) (r : Fin 4) : Memref sig .scVector .hbm S128x128 .f32 :=
  (oV).slice (Rect.unit (s := S16384x128) (k0_off2 L (BitVec.ofNat 32 (4096 * r.val))) S128x128.size (k0_off2_inb L r)) (fun _ => rfl)
abbrev oBlk0 (L : grid0.Coords) : Memref sig .scVector .hbm S128x128 .f32 :=
  (oV).slice (Rect.unit (s := S16384x128) (k0_off2 L 0#32) S128x128.size (k0_off2_inb L 0)) (fun _ => rfl)
abbrev oBlk1 (L : grid0.Coords) : Memref sig .scVector .hbm S128x128 .f32 :=
  (oV).slice (Rect.unit (s := S16384x128) (k0_off2 L 4096#32) S128x128.size (k0_off2_inb L 1)) (fun _ => rfl)
abbrev oBlk2 (L : grid0.Coords) : Memref sig .scVector .hbm S128x128 .f32 :=
  (oV).slice (Rect.unit (s := S16384x128) (k0_off2 L 8192#32) S128x128.size (k0_off2_inb L 2)) (fun _ => rfl)
abbrev oBlk3 (L : grid0.Coords) : Memref sig .scVector .hbm S128x128 .f32 :=
  (oV).slice (Rect.unit (s := S16384x128) (k0_off2 L 12288#32) S128x128.size (k0_off2_inb L 3)) (fun _ => rfl)

/-- Slab `k` of the row scratch and row `k` of the position scratch. -/
abbrev slab (k : ℕ) (h : ∀ a, (![k, 0, 0] : Fin 3 → ℕ) a + S1x128x128.size a ≤ S4x128x128.size a) : Memref sig .scVector .vmem S128x128 .f32 :=
  ((gV).slice (Rect.unit (s := S4x128x128) ![k, 0, 0] S1x128x128.size h) (fun _ => rfl)).squeeze S128x128 squeezes_S1x128x128_S128x128
abbrev row (k : ℕ) (h : ∀ a, (![k, 0] : Fin 2 → ℕ) a + S1x128.size a ≤ S4x128.size a) : Memref sig .scVector .vmem S128 .i32 :=
  ((lV).slice (Rect.unit (s := S4x128) ![k, 0] S1x128.size h) (fun _ => rfl)).squeeze S128 squeezes_S1x128_S128

/-- The nine DMA cells the body names. -/
abbrev csem (k : ℕ) (hk : k < 15 := by decide) : DmaSem sig := ⟨k, hk⟩
abbrev dcell (d : Dev nD) (c : Fin τ.nSC) (i : Fin τ.nSub) (k : Fin 9) : GSem nD τ sig := (V d c i, .dma (csem k.val (k.isLt.trans (by decide))))
/-- They at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0)

/-- What the first copy lands in the position scratch. -/
abbrev PAY : S4x128.Idx → Elt F .i32 := ReadAs.same.apply ((iWin L).view.read (Elt F) (m (iLoc d)))

theorem PAY_apply (x : S4x128.Idx) : PAY m d L x = m (iLoc d) ((iWin L).view.emb x) :=
  (View.read_apply _ _).trans (cast_eq _ _)

/-- Word `x` of row `k` of the position scratch, once the first copy has landed. -/
theorem row_read (g0 : Buf (Elt F) ((lV).view.loc (VT d L))) (k : ℕ) (h) (x : S128.Idx) :
    View.read (Elt F) (row k h).view ((lV).view.writes (Elt F) g0 [⟨Rect.whole cc0_scratch0.ty.shape, PAY m d L⟩]) x
      = m (iLoc d) ((iWin L).view.emb ((Rect.unit (s := S4x128) ![k, 0] S1x128.size h).emb ((Shape.reshapeEquiv squeezes_S1x128_S128.numel_eq) x))) := by
  have e : View.read (Elt F) (row k h).view ((lV).view.writes (Elt F) g0 [⟨Rect.whole cc0_scratch0.ty.shape, PAY m d L⟩]) x
      = View.read (Elt F) (lV).view ((lV).view.writes (Elt F) g0 [⟨Rect.whole cc0_scratch0.ty.shape, PAY m d L⟩])
          ((Rect.unit (s := S4x128) ![k, 0] S1x128.size h).emb ((Shape.reshapeEquiv squeezes_S1x128_S128.numel_eq) x)) := by
    rw [View.read_apply, View.read_apply]; rfl
  rw [e, View.read_writes_whole, PAY_apply]

/-- Every offset a gather reads is a row of the table. -/
theorem row_lt (hpre : PreOK m) (g0 : Buf (Elt F) ((lV).view.loc (VT d L))) (pay : S4x128.Idx → Elt F .i32) (hpay : pay = PAY m d L) (k : ℕ) (h) :
    ∀ x, (View.read (Elt F) (row k h).view ((lV).view.writes (Elt F) g0 [⟨Rect.whole cc0_scratch0.ty.shape, pay⟩]) x).toNat < 8192 := by
  subst hpay; intro x; rw [row_read]; exact hpre d _

/-- Distinct slabs, and distinct rows, do not meet. -/
theorem slab_disj (k k' : ℕ) (h h') (hk : k < k' ∨ k' < k) : Disjoint (slab k h).view.set (slab k' h').view.set := by
  simp only [Memref.view, View.set_reshape, View.set_slice]
  refine (Finset.disjoint_map _).mpr (Rect.disjoint_of_separated _ _ 0 (hk.elim (fun l => .inl (.inr ?_)) fun l => .inr (.inr ?_)))
  · show k + 1 * (1 - 1) < k'; omega
  · show k' + 1 * (1 - 1) < k; omega
theorem row_disj (k k' : ℕ) (h h') (hk : k < k' ∨ k' < k) : Disjoint (row k h).view.set (row k' h').view.set := by
  simp only [Memref.view, View.set_reshape, View.set_slice]
  refine (Finset.disjoint_map _).mpr (Rect.disjoint_of_separated _ _ 0 (hk.elim (fun l => .inl (.inr ?_)) fun l => .inr (.inr ?_)))
  · show k + 1 * (1 - 1) < k'; omega
  · show k' + 1 * (1 - 1) < k; omega

/-- Reading a slab after another slab has been written gives what was there. -/
theorem slab_read_other (k k' : ℕ) (h h') (hk : k < k' ∨ k' < k) (f : (slab k' h').view.ty.Contents (Elt F)) (w : S128x128.Idx → Elt F .f32) :
    View.read (Elt F) (slab k h).view (View.write (Elt F) (slab k' h').view f w Finset.univ) = View.read (Elt F) (slab k h).view f := by
  funext x
  refine View.read_congr_at x ?_
  refine View.write_of_not_mem (v := (slab k' h').view) f w Finset.univ fun hm => ?_
  exact Finset.disjoint_left.mp (slab_disj k k' h h' hk) (Finset.mem_map_of_mem _ (Finset.mem_univ x)) hm

/-- Row `k` of the position scratch as a list: its word `n` is word `(k, n)`. -/
theorem row_lane : ∀ n : Fin 128,
    ((Shape.reshapeEquiv (s := S1x128) (s' := S128) squeezes_S1x128_S128.numel_eq) (S128.rowMajor.symm (Fin.cast rfl n)) 0).val = 0
      ∧ ((Shape.reshapeEquiv (s := S1x128) (s' := S128) squeezes_S1x128_S128.numel_eq) (S128.rowMajor.symm (Fin.cast rfl n)) 1).val = n.val := by
  decide +kernel

theorem L0_lt : (L 0).val < 2 := (L 0).isLt
theorem L1_lt : (L 1).val < 16 := (L 1).isLt

/-- A gathered element's table index: the row its list names, its own column. -/
theorem gidx_row (R : Fin 128 → Fin 8192) (y : S128x128.Idx) : ((gathers_S8192x128_S128x128.idx R y) 0).val = (R (y 0)).val := rfl
theorem gidx_col (R : Fin 128 → Fin 8192) (y : S128x128.Idx) : ((gathers_S8192x128_S128x128.idx R y) 1).val = (y 1).val := rfl

/-- The table's slice is the whole table. -/
theorem xslice_emb (hx : ∀ a, (![0, 0] : Fin 2 → ℕ) a + S8192x128.size a ≤ S8192x128.size a) (j : S8192x128.Idx) :
    ((xV).slice (Rect.unit (s := S8192x128) ![0, 0] S8192x128.size hx) (fun _ => rfl)).view.emb j = j := by
  funext a; apply Fin.ext
  match a with
  | 0 => show 0 + 1 * (j 0).val = _; rw [zero_add, one_mul]
  | 1 => show 0 + 1 * (j 1).val = _; rw [zero_add, one_mul]

/-- The row list `r` names at `n`: the position at `(r, 256·s + 128·c + n)`. -/
theorem rows_val (r : Fin 4) (g : Buf (Elt F) ((lV).view.loc (VT d L))) (h)
    (hin : ∀ x, (View.read (Elt F) (row r.val h).view ((lV).view.writes (Elt F) g [⟨Rect.whole cc0_scratch0.ty.shape, PAY m d L⟩]) x).toNat < 8192)
    (n : Fin 128) :
    (SparseCore.rows (F := F) (View.read (Elt F) (row r.val h).view ((lV).view.writes (Elt F) g [⟨Rect.whole cc0_scratch0.ty.shape, PAY m d L⟩]))
        (rfl : S128.numel = 128) hin n).val
      = ((m (iLoc d) : S4x4096.Idx → BitVec 32) (pix r ⟨256 * (L 1).val + 128 * (L 0).val + n.val,
          by have h0 := L0_lt L; have h1 := L1_lt L; have := n.isLt; omega⟩)).toNat := by
  refine (congrArg BitVec.toNat (row_read m d L g r.val h (S128.rowMajor.symm (Fin.cast rfl n)))).trans ?_
  obtain ⟨l0, l1⟩ := row_lane n
  refine congrArg (fun j : S4x4096.Idx => ((m (iLoc d) : S4x4096.Idx → BitVec 32) j).toNat) (eq_pix _ _ _ ?_ ?_)
  · show k0_off1 L 0 + 1 * (r.val + 1 * ((Shape.reshapeEquiv (s := S1x128) (s' := S128) squeezes_S1x128_S128.numel_eq) (S128.rowMajor.symm (Fin.cast rfl n)) 0).val) = r.val
    rw [l0, k0_off1_eq]
    show 0 + 1 * (r.val + 1 * 0) = _
    omega
  · show k0_off1 L 1 + 1 * (0 + 1 * ((Shape.reshapeEquiv (s := S1x128) (s' := S128) squeezes_S1x128_S128.numel_eq) (S128.rowMajor.symm (Fin.cast rfl n)) 1).val)
      = 256 * (L 1).val + 128 * (L 0).val + n.val
    rw [l1, k0_off1_eq]
    show 256 * (L 1).val + 128 * (L 0).val + 1 * (0 + 1 * n.val) = _
    omega

/-- What a gather by row `r` of the positions lands in its slab: the tile's row block `r` of the gathered array. -/
theorem gather_val (hpre : PreOK m) (r : Fin 4) (g : Buf (Elt F) ((lV).view.loc (VT d L))) (h)
    (hx : ∀ a, (![0, 0] : Fin 2 → ℕ) a + S8192x128.size a ≤ S8192x128.size a)
    (hin : ∀ x, (View.read (Elt F) (row r.val h).view ((lV).view.writes (Elt F) g [⟨Rect.whole cc0_scratch0.ty.shape, PAY m d L⟩]) x).toNat < 8192)
    (y : S128x128.Idx) :
    SparseCore.gatherPayload gathers_S8192x128_S128x128
      (View.read (Elt F) ((xV).slice (Rect.unit (s := S8192x128) ![0, 0] S8192x128.size hx) (fun _ => rfl)).view (m (tLoc d)))
      (SparseCore.rows (F := F) (View.read (Elt F) (row r.val h).view ((lV).view.writes (Elt F) g [⟨Rect.whole cc0_scratch0.ty.shape, PAY m d L⟩]))
        (rfl : S128.numel = 128) hin) y
      = gat m d ((oBlk L r).view.emb y) := by
  have h0 := L0_lt L; have h1 := L1_lt L; have hy0 : (y 0).val < 128 := (y 0).isLt
  have e0 : (((oBlk L r).view.emb y) 0).val = 4096 * r.val + (256 * (L 1).val + 128 * (L 0).val + (y 0).val) := by
    show k0_off2 L (BitVec.ofNat 32 (4096 * r.val)) 0 + 1 * (y 0).val = _
    rw [k0_off2_eq L r, one_mul]
    show 4096 * r.val + 256 * (L 1).val + 128 * (L 0).val + (y 0).val = _
    omega
  have e1 : (((oBlk L r).view.emb y) 1).val = (y 1).val := by
    show k0_off2 L (BitVec.ofNat 32 (4096 * r.val)) 1 + 1 * (y 1).val = _
    rw [k0_off2_eq L r, one_mul]; exact Nat.zero_add _
  refine Eq.trans ?_ (gat_eq m hpre d _ r ⟨256 * (L 1).val + 128 * (L 0).val + (y 0).val, by omega⟩ (y 1) e0 e1).symm
  unfold SparseCore.gatherPayload
  rw [View.read_apply, cast_eq, xslice_emb]
  exact congrArg (m (tLoc d) : S8192x128.Idx → Elt F .f32)
    (eq_tix _ _ _ ((gidx_row _ y).trans (rows_val m d L r g h hin (y 0))) (gidx_col _ y))

/-- A row block of the output, written with what its slab holds, holds the gathered array. -/
theorem out_pts (r : Fin 4) (f : Buf (Elt F) (oLoc d)) (w : S128x128.Idx → Elt F .f32) (hw : ∀ y, w y = gat m d ((oBlk L r).view.emb y)) :
    ((oBlk L r).view.loc (VT d L) ↦[(oBlk L r).view.set]{fullShare} (oBlk L r).view.writes (Elt F) f [⟨Rect.whole S128x128, w⟩] : sProp 𝕄)
      = ((oBlk L r).view.loc (VT d L) ↦[(oBlk L r).view.set]{fullShare} gat m d) :=
  pointsTo_congr fun i hi => by
    obtain ⟨y, -, rfl⟩ := Finset.mem_map.mp hi
    have e := congrFun (View.read_writes_whole (Val := Elt F) (oBlk L r).view f w) y
    rw [View.read_apply, hw y] at e
    exact (cast_eq _ _).symm.trans e

variable [FloatOps F]

theorem tile_run (hpre : PreOK m) (q : PosShare TreeShare) (O : CellTallies nD τ sig (HIx 1)) (W : Waits sig (HIx 1))
    (g0 : Buf (Elt F) ((lV).view.loc (VT d L))) (t0 : Buf (Elt F) ((gV).view.loc (VT d L))) :
    (iprop(Transfers.MayWaits (VT d L) (default : HIx 1) O
        ∗ ((iV).view.loc (VT d L) ↦{q} m (iLoc d))
        ∗ ((xV).view.loc (VT d L) ↦{Transfers.shareTokN q 0} m (tLoc d))
        ∗ ((xV).view.loc (VT d L) ↦{Transfers.shareTokN q 1} m (tLoc d))
        ∗ ((xV).view.loc (VT d L) ↦{Transfers.shareTokN q 2} m (tLoc d))
        ∗ ((xV).view.loc (VT d L) ↦{Transfers.shareTokN q 3} m (tLoc d))
        ∗ ((oBlk0 L).view.loc (VT d L) ↦[(oBlk0 L).view.set]{fullShare} m (oLoc d))
        ∗ ((oBlk1 L).view.loc (VT d L) ↦[(oBlk1 L).view.set]{fullShare} m (oLoc d))
        ∗ ((oBlk2 L).view.loc (VT d L) ↦[(oBlk2 L).view.set]{fullShare} m (oLoc d))
        ∗ ((oBlk3 L).view.loc (VT d L) ↦[(oBlk3 L).view.set]{fullShare} m (oLoc d))
        ∗ ((lV).view.loc (VT d L) ↦[(lV).view.set]{fullShare} g0)
        ∗ ((gV).view.loc (VT d L) ↦[(gV).view.set]{fullShare} t0)
        ∗ cells0 d L
        ∗ owes (VT d L) O W) : sProp 𝕄)
      ⊢ wp frame (wpE (defs₀ (F := F)) 𝒱₀ (VT d L) none) Set.univ
          (cc0_gather_kernel L xV (Memref.isWhole_whole _) iV (Memref.isWhole_whole _) oV (Memref.isWhole_whole _)
            lV (Memref.isWhole_whole _) gV (Memref.isWhole_whole _) cc0_scratch2 cc0_scratch3 cc0_scoped0)
          fun _ => iprop(((iV).view.loc (VT d L) ↦{q} m (iLoc d))
            ∗ ((xV).view.loc (VT d L) ↦{Transfers.shareTokN q 0} m (tLoc d))
            ∗ ((xV).view.loc (VT d L) ↦{Transfers.shareTokN q 1} m (tLoc d))
            ∗ ((xV).view.loc (VT d L) ↦{Transfers.shareTokN q 2} m (tLoc d))
            ∗ ((xV).view.loc (VT d L) ↦{Transfers.shareTokN q 3} m (tLoc d))
            ∗ ((oBlk0 L).view.loc (VT d L) ↦[(oBlk0 L).view.set]{fullShare} gat m d)
            ∗ ((oBlk1 L).view.loc (VT d L) ↦[(oBlk1 L).view.set]{fullShare} gat m d)
            ∗ ((oBlk2 L).view.loc (VT d L) ↦[(oBlk2 L).view.set]{fullShare} gat m d)
            ∗ ((oBlk3 L).view.loc (VT d L) ↦[(oBlk3 L).view.set]{fullShare} gat m d)
            ∗ (∃ g, (lV).view.loc (VT d L) ↦[(lV).view.set]{fullShare} g)
            ∗ (∃ g, (gV).view.loc (VT d L) ↦[(gV).view.set]{fullShare} g)
            ∗ cells0 d L
            ∗ ∃ W', owes (VT d L) O W') := by
  iintro ⟨#Hmw, HI, HX0, HX1, HX2, HX3, HO0, HO1, HO2, HO3, HG, HT, ⟨Hc0, Hc1, Hc2, Hc3, Hc4, Hc5, Hc6, Hc7, Hc8⟩, HO⟩
  have hs := slab_disj; have hr := row_disj
  sl_unfold [cc0_gather_kernel, k0_part1, k0_part2, k0_part3, k0_part4]
  sl_exec
  have hidx := fun g => row_lt m d L hpre g (tile_run.sl.dma0 m d L) rfl
  have hi0 := fun g => hidx g 0 inb_S4x128_S1x128_0_0
  have hi1 := fun g => hidx g 1 inb_S4x128_S1x128_1_0
  have hi2 := fun g => hidx g 2 inb_S4x128_S1x128_2_0
  have hi3 := fun g => hidx g 3 inb_S4x128_S1x128_3_0
  sl_exec (disch := omega)
  have s01 := fun f w => slab_read_other (F := F) 0 1 inb_S4x128x128_S1x128x128_0_0_0 inb_S4x128x128_S1x128x128_1_0_0 (.inl (by decide)) f w
  have s02 := fun f w => slab_read_other (F := F) 0 2 inb_S4x128x128_S1x128x128_0_0_0 inb_S4x128x128_S1x128x128_2_0_0 (.inl (by decide)) f w
  have s03 := fun f w => slab_read_other (F := F) 0 3 inb_S4x128x128_S1x128x128_0_0_0 inb_S4x128x128_S1x128x128_3_0_0 (.inl (by decide)) f w
  have s12 := fun f w => slab_read_other (F := F) 1 2 inb_S4x128x128_S1x128x128_1_0_0 inb_S4x128x128_S1x128x128_2_0_0 (.inl (by decide)) f w
  have s13 := fun f w => slab_read_other (F := F) 1 3 inb_S4x128x128_S1x128x128_1_0_0 inb_S4x128x128_S1x128x128_3_0_0 (.inl (by decide)) f w
  have s23 := fun f w => slab_read_other (F := F) 2 3 inb_S4x128x128_S1x128x128_2_0_0 inb_S4x128x128_S1x128x128_3_0_0 (.inl (by decide)) f w
  have w0 : ∀ y, tile_run.sl.dma0_1 m d L t0 hidx y = gat m d ((oBlk L 0).view.emb y) := fun y => by
    refine (congrFun (((s03 _ _).trans ((s02 _ _).trans ((s01 _ _).trans (View.read_write_univ (v := (slab 0 inb_S4x128x128_S1x128x128_0_0_0).view) _ _))))) y).trans ?_
    exact gather_val m d L hpre 0 _ _ _ _ y
  have w1 : ∀ y, tile_run.sl.dma0_2 m d L t0 hidx y = gat m d ((oBlk L 1).view.emb y) := fun y => by
    refine (congrFun (((s13 _ _).trans ((s12 _ _).trans (View.read_write_univ (v := (slab 1 inb_S4x128x128_S1x128x128_1_0_0).view) _ _)))) y).trans ?_
    exact gather_val m d L hpre 1 _ _ _ _ y
  have w2 : ∀ y, tile_run.sl.dma0_3 m d L t0 hidx y = gat m d ((oBlk L 2).view.emb y) := fun y => by
    refine (congrFun (((s23 _ _).trans (View.read_write_univ (v := (slab 2 inb_S4x128x128_S1x128x128_2_0_0).view) _ _))) y).trans ?_
    exact gather_val m d L hpre 2 _ _ _ _ y
  have w3 : ∀ y, tile_run.sl.dma0_4 m d L t0 hidx y = gat m d ((oBlk L 3).view.emb y) := fun y => by
    refine (congrFun (View.read_write_univ (v := (slab 3 inb_S4x128x128_S1x128x128_3_0_0).view) _ _) y).trans ?_
    exact gather_val m d L hpre 3 _ _ _ _ y
  ihave HO0 := (Entails.of_eq (out_pts m d L 0 _ _ w0)) $$ HO0
  ihave HO1 := (Entails.of_eq (out_pts m d L 1 _ _ w1)) $$ HO1
  ihave HO2 := (Entails.of_eq (out_pts m d L 2 _ _ w2)) $$ HO2
  ihave HO3 := (Entails.of_eq (out_pts m d L 3 _ _ w3)) $$ HO3
  sl_step
  sl_close

end Tile

end Cert.Proof.Rope

end
-- ==== Proof.Obl.lean ====
/-
  What the SparseCore call's handshakes carry, the task of every vector subcore as the launch theorem asks for it, and
  the split of the call's arrays over the subcores.
-/
module

public import proofs.«01_k».proof.Proof.Tile

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg2_scv : Memref Cert.KernelIdeal.sig Kind.scVector Space.hbm Cert.KernelIdeal.S8192x128 EltTy.f32)
local notation "iV" => (Memref.whole Cert.KernelIdeal.main_arg1_scv : Memref Cert.KernelIdeal.sig Kind.scVector Space.hbm Cert.KernelIdeal.S4x4096 EltTy.i32)
local notation "oV" => (Memref.whole Cert.KernelIdeal.main_v30_scv : Memref Cert.KernelIdeal.sig Kind.scVector Space.hbm Cert.KernelIdeal.S16384x128 EltTy.f32)
local notation "lV" => (Memref.whole Cert.KernelIdeal.cc0_scratch0 : Memref Cert.KernelIdeal.sig Kind.scVector Space.vmem Cert.KernelIdeal.S4x128 EltTy.i32)
local notation "gV" => (Memref.whole Cert.KernelIdeal.cc0_scratch1 : Memref Cert.KernelIdeal.sig Kind.scVector Space.vmem Cert.KernelIdeal.S4x128x128 EltTy.f32)

variable (m : (ℓ : Loc nD τ sig) → Buf (Elt F) ℓ)

/-! ## What the handshakes carry -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A subcore's share of the two arrays every subcore reads. -/
abbrev tq (L : grid0.Coords) : PosShare TreeShare := Transfers.shareTokN fullShare (16 * (L 0).val + (L 1).val)

/-- A subcore's row block `r` of the output. -/
abbrev oSet (L : grid0.Coords) (r : Fin 4) : Finset S16384x128.Idx := (oBlk L r).view.set

/-- What a subcore holds during the call: its shares of the positions and of the table, its four row blocks of the
    output at contents `f`. -/
def tilePay (d : Dev nD) (L : grid0.Coords) (f : Buf (Elt F) (oLoc d)) : sProp 𝕄 :=
  iprop((iLoc d ↦{tq L} m (iLoc d)) ∗ (tLoc d ↦{tq L} m (tLoc d)) ∗ bigSep Finset.univ fun r : Fin 4 => oLoc d ↦[oSet L r]{fullShare} f)

instance tilePay_storable (d : Dev nD) (L : grid0.Coords) (f : Buf (Elt F) (oLoc d)) : BI.Storable (upEmb : UEmb _ 𝕄) (tilePay m d L f) := by
  unfold tilePay; infer_instance

/-- What a SparseCore holds: its subcores' holdings. -/
def corePay (d : Dev nD) (c : Fin (grid0.bound 0)) (f : Buf (Elt F) (oLoc d)) : sProp 𝕄 :=
  bigSep Finset.univ fun s : Fin (grid0.bound 1) => tilePay m d (coordsV c s) f

instance corePay_storable (d : Dev nD) (c : Fin (grid0.bound 0)) (f : Buf (Elt F) (oLoc d)) : BI.Storable (upEmb : UEmb _ 𝕄) (corePay m d c f) := by
  unfold corePay; infer_instance

/-- The call takes the output as it was launched and brings it back gathered. -/
def P : (K (F := F)).Pay (nD := nD) (Val := Elt F) (Name := ℕ) (U := UU) where
  st := fun q d c => match q with | 0 => corePay m d ⟨c.val, c.isLt⟩ (m (oLoc d))
  dn := fun q d c => match q with | 0 => corePay m d ⟨c.val, c.isLt⟩ (gat m d)
  go := fun q d c i => match q with | 0 => tilePay m d (coordsV ⟨c.val, c.isLt⟩ ⟨i.val, i.isLt⟩) (m (oLoc d))
  td := fun q d c i => match q with | 0 => tilePay m d (coordsV ⟨c.val, c.isLt⟩ ⟨i.val, i.isLt⟩) (gat m d)
  x := fun _ _ => iprop(emp)

instance P_storable : (P (F := F) m).IsStorable where
  st q d c := match q with | 0 => corePay_storable m d ⟨c.val, c.isLt⟩ (m (oLoc d))
  dn q d c := match q with | 0 => corePay_storable m d ⟨c.val, c.isLt⟩ (gat m d)
  go q d c i := match q with | 0 => tilePay_storable m d (coordsV ⟨c.val, c.isLt⟩ ⟨i.val, i.isLt⟩) (m (oLoc d))
  td q d c i := match q with | 0 => tilePay_storable m d (coordsV ⟨c.val, c.isLt⟩ ⟨i.val, i.isLt⟩) (gat m d)

/-! ## A subcore's own buffers and cells -/

section Tile

variable (d : Dev nD) (L : grid0.Coords)

theorem dcell_mem (c : Fin τ.nSC) (i : Fin τ.nSub) (k : Fin 9) : dcell d c i k ∈ ownCells (V d c i) :=
  mem_ownCells.mpr ⟨rfl, (show ∀ s : DmaSem sig, (SemLoc.dma s : SemLoc sig).isScoped .scVector = true by decide) _⟩

/-- The nine cells the body names are among the subcore's own. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The two scratch buffers are among the subcore's own. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_lV (f : Buf (Elt F) ((VT d L).loc cc0_scratch0)) :
    ((lV).view.loc (VT d L) ↦[(lV).view.set]{fullShare} f : sProp 𝕄) = (VT d L).loc cc0_scratch0 ↦{fullShare} f := by
  rw [View.set_whole]
theorem pts_gV (f : Buf (Elt F) ((VT d L).loc cc0_scratch1)) :
    ((gV).view.loc (VT d L) ↦[(gV).view.set]{fullShare} f : sProp 𝕄) = (VT d L).loc cc0_scratch1 ↦{fullShare} f := by
  rw [View.set_whole]

/-- The output's four row blocks, one by one. -/
theorem blocks_eq (f : Buf (Elt F) (oLoc d)) :
    (bigSep Finset.univ fun r : Fin 4 => (oLoc d ↦[oSet L r]{fullShare} f : sProp 𝕄))
      = iprop(((oBlk0 L).view.loc (VT d L) ↦[(oBlk0 L).view.set]{fullShare} f) ∗ ((oBlk1 L).view.loc (VT d L) ↦[(oBlk1 L).view.set]{fullShare} f)
          ∗ ((oBlk2 L).view.loc (VT d L) ↦[(oBlk2 L).view.set]{fullShare} f) ∗ ((oBlk3 L).view.loc (VT d L) ↦[(oBlk3 L).view.set]{fullShare} f)) := by
  rw [show (Finset.univ : Finset (Fin 4)) = {0, 1, 2, 3} by decide,
    SparseCore.bigSep_insert' (by decide), SparseCore.bigSep_insert' (by decide), SparseCore.bigSep_insert' (by decide), bigSep_singleton]
  rfl

/-- A share of the table as four read tokens, one for each gather in flight, and what stays behind. -/
theorem table_toks (q : PosShare TreeShare) (f : Buf (Elt F) (tLoc d)) :
    (tLoc d ↦{q} f : sProp 𝕄) ⊣⊢ iprop((tLoc d ↦{Transfers.shareDrop q 4} f) ∗ (tLoc d ↦{Transfers.shareTokN q 0} f) ∗ (tLoc d ↦{Transfers.shareTokN q 1} f)
      ∗ (tLoc d ↦{Transfers.shareTokN q 2} f) ∗ (tLoc d ↦{Transfers.shareTokN q 3} f)) := by
  have h : (tLoc d ↦{q} f : sProp 𝕄) ⊣⊢ iprop((tLoc d ↦{Transfers.shareDrop q 4} f) ∗ bigSep (Finset.range 4) fun i => tLoc d ↦{Transfers.shareTokN q i} f) :=
    Transfers.pointsTo_toks_range (ℓ := tLoc d) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

variable [FloatOps F]

/-- The body on one subcore, from what its task is handed to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tilePay m d L (m (oLoc d))
        ∗ scopedBufs (VT d L) ∗ scopedSems0 (VT d L) ∗ owes (VT d L) O W)
      ⊢ wp frame (wpE (defs₀ (F := F)) 𝒱₀ (VT d L) none) Set.univ
          (cc0_gather_kernel L xV (Memref.isWhole_whole _) iV (Memref.isWhole_whole _) oV (Memref.isWhole_whole _)
            lV (Memref.isWhole_whole _) gV (Memref.isWhole_whole _) cc0_scratch2 cc0_scratch3 cc0_scoped0)
          fun _ => iprop(tilePay m d L (gat m d)
            ∗ scopedBufs (VT d L) ∗ scopedSems0 (VT d L)
            ∗ ∃ W', ⌜∀ p ∈ W', p ∈ W ∨ p.2 = none ∨ p.2 = some (0 : Fin 1)⌝ ∗ owes (VT d L) O W') := by
  unfold tilePay
  rw [(K (F := F)).scopedBufs_V hF d (cV L) (jV L), SparseCore.Cfg.scopedSems0_V (Val := Elt F) d (cV L) (jV L), ownSems0_V, ownBufs_V,
    blocks_eq, blocks_eq]
  iintro ⟨#Hlv, -, ⟨Hi, Ht, Ho0, Ho1, Ho2, Ho3⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HG := (Entails.of_eq (pts_lV (F := F) d L _).symm) $$ HG
  ihave HT := (Entails.of_eq (pts_gV (F := F) d L _).symm) $$ HT
  ihave Ht := (table_toks d (tq L) (m (tLoc d))).1 $$ Ht
  icases Ht with ⟨Htr, Ht0, Ht1, Ht2, Ht3⟩
  iapply (wp_wand_r Idealize.ShloMosaic.frame (wpE (defs₀ (F := F)) 𝒱₀ (VT d L) none) Set.univ)
  isplitl [Hi Ht0 Ht1 Ht2 Ht3 Ho0 Ho1 Ho2 Ho3 HG HT HC HO]
  · iapply (tile_run m d L hpre (tq L) O W g0 t0)
    isplitr; · iexact Hmw
    isplitl [Hi]; · iexact Hi
    isplitl [Ht0]; · iexact Ht0
    isplitl [Ht1]; · iexact Ht1
    isplitl [Ht2]; · iexact Ht2
    isplitl [Ht3]; · iexact Ht3
    isplitl [Ho0]; · iexact Ho0
    isplitl [Ho1]; · iexact Ho1
    isplitl [Ho2]; · iexact Ho2
    isplitl [Ho3]; · iexact Ho3
    isplitl [HG]; · iexact HG
    isplitl [HT]; · iexact HT
    isplitl [HC]; · iexact HC
    iexact HO
  iintro %_ ⟨Hi, Ht0, Ht1, Ht2, Ht3, Ho0, Ho1, Ho2, Ho3, ⟨%g, HG⟩, ⟨%t, HT⟩, HC, ⟨%W', HO⟩⟩
  ihave Ht := (table_toks d (tq L) (m (tLoc d))).2 $$ [Htr Ht0 Ht1 Ht2 Ht3]
  · isplitl [Htr]; · iexact Htr
    isplitl [Ht0]; · iexact Ht0
    isplitl [Ht1]; · iexact Ht1
    isplitl [Ht2]; · iexact Ht2
    iexact Ht3
  isplitl [Hi Ht Ho0 Ho1 Ho2 Ho3]
  · isplitl [Hi]; · iexact Hi
    isplitl [Ht]; · iexact Ht
    isplitl [Ho0]; · iexact Ho0
    isplitl [Ho1]; · iexact Ho1
    isplitl [Ho2]; · iexact Ho2
    iexact Ho3
  isplitl [HG HT Hbufs]
  · isplitl [HG]; · iexists _; iapply (Entails.of_eq (pts_lV (F := F) d L _)); iexact HG
    isplitl [HT]; · iexists _; iapply (Entails.of_eq (pts_gV (F := F) d L _)); iexact HT
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          lV (Memref.isWhole_whole _) gV (Memref.isWhole_whole _) cc0_scratch2 cc0_scratch3 cc0_scoped0) ⟨⟩ c s := rfl

/-- The task of every subcore meets what the launch theorem asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

end Tile

/-- A SparseCore's holdings are its subcores', both ways. -/
theorem vecSplit : (K (F := F)).VecSplit' (P m) 0 := by
  intro d c
  show (bigSep Finset.univ fun i : Fin ((K (F := F)).nSub 0) => tilePay m d (coordsV ⟨c.val, c.isLt⟩ ⟨i.val, i.isLt⟩) (m (oLoc d))) ⊢ |={Set.univ}=>
    iprop((bigSep Finset.univ fun i : Fin ((K (F := F)).nSub 0) => tilePay m d (coordsV ⟨c.val, c.isLt⟩ ⟨i.val, i.isLt⟩) (m (oLoc d)))
      ∗ ((bigSep Finset.univ fun i : Fin ((K (F := F)).nSub 0) => tilePay m d (coordsV ⟨c.val, c.isLt⟩ ⟨i.val, i.isLt⟩) (gat m d))
          -∗ (bigSep Finset.univ fun i : Fin ((K (F := F)).nSub 0) => tilePay m d (coordsV ⟨c.val, c.isLt⟩ ⟨i.val, i.isLt⟩) (gat m d))))
  iintro H
  imodintro
  isplitl [H]
  · iexact H
  iintro H
  iexact H

/-! ## The call's arrays over the subcores -/

/-- A subcore and one of its row blocks. -/
abbrev Sub : Type := Fin (grid0.bound 0) × Fin (grid0.bound 1)

theorem oSet_off (p : Sub × Fin 4) : k0_off2 (coordsV p.1.1 p.1.2) (BitVec.ofNat 32 (4096 * p.2.val))
    = ![4096 * p.2.val + 256 * p.1.2.val + 128 * p.1.1.val, 0] := k0_off2_eq _ _

theorem oSet_eq (p : Sub × Fin 4) : oSet (coordsV p.1.1 p.1.2) p.2
    = (Rect.unit (s := S16384x128) (k0_off2 (coordsV p.1.1 p.1.2) (BitVec.ofNat 32 (4096 * p.2.val))) S128x128.size (k0_off2_inb _ p.2)).set := by
  show ((View.whole (main_v30_scv : Ref sig .scVector)).slice _).set = _
  rw [View.set_slice]; exact Finset.map_refl

/-- A row of the output lies in a subcore's block exactly when its number does. -/
theorem mem_oSet (p : Sub × Fin 4) (x : S16384x128.Idx) : x ∈ oSet (coordsV p.1.1 p.1.2) p.2 ↔
    4096 * p.2.val + 256 * p.1.2.val + 128 * p.1.1.val ≤ (x 0).val ∧ (x 0).val < 4096 * p.2.val + 256 * p.1.2.val + 128 * p.1.1.val + 128 := by
  rw [oSet_eq, Rect.mem_set_unit, oSet_off]
  constructor
  · intro h; exact h 0
  · intro h a
    match a with
    | 0 => exact h
    | 1 => exact ⟨Nat.zero_le _, (x 1).isLt.trans_eq (Nat.zero_add _).symm⟩

theorem oSet_disjoint : ∀ p ∈ (Finset.univ : Finset (Sub × Fin 4)), ∀ p' ∈ (Finset.univ : Finset (Sub × Fin 4)), p ≠ p' →
    Disjoint (oSet (coordsV p.1.1 p.1.2) p.2) (oSet (coordsV p'.1.1 p'.1.2) p'.2) := fun p _ p' _ h => by
  refine Finset.disjoint_left.mpr fun x hx hx' => h ?_
  rw [mem_oSet] at hx hx'
  obtain ⟨⟨c, s⟩, r⟩ := p; obtain ⟨⟨c', s'⟩, r'⟩ := p'
  have hc : c.val < 2 := c.isLt; have hs : s.val < 16 := s.isLt
  have hc' : c'.val < 2 := c'.isLt; have hs' : s'.val < 16 := s'.isLt
  dsimp only at hx hx'
  have e1 : c = c' := Fin.ext (by omega)
  have e2 : s = s' := Fin.ext (by omega)
  have e3 : r = r' := Fin.ext (by omega)
  rw [e1, e2, e3]

theorem oSet_cover : (Finset.univ : Finset (Sub × Fin 4)).biUnion (fun p => oSet (coordsV p.1.1 p.1.2) p.2) = Finset.univ := by
  refine Finset.eq_univ_of_forall fun x => Finset.mem_biUnion.mpr ?_
  have h0 : (x 0).val < 16384 := (x 0).isLt
  refine ⟨((⟨(x 0).val % 256 / 128, by show _ < 2; omega⟩, ⟨(x 0).val % 4096 / 256, by show _ < 16; omega⟩), ⟨(x 0).val / 4096, by omega⟩), Finset.mem_univ _, ?_⟩
  rw [mem_oSet]
  dsimp only
  omega

/-- The output whole is the subcores' row blocks. -/
theorem out_split (d : Dev nD) (f : Buf (Elt F) (oLoc d)) :
    (oLoc d ↦{fullShare} f : sProp 𝕄)
      = bigSep Finset.univ fun c : Fin (grid0.bound 0) => bigSep Finset.univ fun s : Fin (grid0.bound 1) => bigSep Finset.univ fun r : Fin 4 =>
          oLoc d ↦[oSet (coordsV c s) r]{fullShare} f := by
  have h : (oLoc d ↦{fullShare} f : sProp 𝕄) = bigSep Finset.univ fun p : Sub × Fin 4 => oLoc d ↦[oSet (coordsV p.1.1 p.1.2) p.2]{fullShare} f := by
    rw [← pointsTo_biUnion Finset.univ (ℓ := oLoc d) (fun p : Sub × Fin 4 => oSet (coordsV p.1.1 p.1.2) p.2) oSet_disjoint, oSet_cover]; try rfl
  rw [h, BI.bigSep_univ_prod, BI.bigSep_univ_prod]

/-- A sum over the first 32 numbers is a sum over the subcores. -/
theorem bigSep_subs (Φ : ℕ → sProp 𝕄) : bigSep (Finset.range 32) Φ
    = bigSep Finset.univ fun c : Fin (grid0.bound 0) => bigSep Finset.univ fun s : Fin (grid0.bound 1) => Φ (16 * c.val + s.val) := by
  have e : Finset.range 32 = (Finset.univ : Finset Sub).image fun p => 16 * p.1.val + p.2.val := by
    ext n
    simp only [Finset.mem_range, Finset.mem_image, Finset.mem_univ, true_and]
    constructor
    · intro h; exact ⟨(⟨n / 16, by show _ < 2; omega⟩, ⟨n % 16, by show _ < 16; omega⟩), by dsimp only; omega⟩
    · rintro ⟨⟨c, s⟩, rfl⟩
      have hc : c.val < 2 := c.isLt; have hs : s.val < 16 := s.isLt
      dsimp only; omega
  rw [e, SparseCore.bigSep_image_of_injOn (fun a _ b _ h => by
    obtain ⟨c, s⟩ := a; obtain ⟨c', s'⟩ := b
    have hs : s.val < 16 := s.isLt; have hs' : s'.val < 16 := s'.isLt
    dsimp only at h
    have e1 : c = c' := Fin.ext (by omega)
    have e2 : s = s' := Fin.ext (by omega)
    rw [e1, e2]), BI.bigSep_univ_prod]

/-- What stays on the TensorCore of the two shared arrays while the call runs. -/
def rest (d : Dev nD) : sProp 𝕄 :=
  iprop((iLoc d ↦{Transfers.shareDrop fullShare 32} m (iLoc d)) ∗ (tLoc d ↦{Transfers.shareDrop fullShare 32} m (tLoc d)))

/-- The call's three arrays are the SparseCores' holdings and what stays. -/
theorem call_split (d : Dev nD) (f : Buf (Elt F) (oLoc d)) :
    iprop((iLoc d ↦{fullShare} m (iLoc d)) ∗ (tLoc d ↦{fullShare} m (tLoc d)) ∗ (oLoc d ↦{fullShare} f))
      ⊣⊢ (iprop(rest m d ∗ bigSep Finset.univ fun c : Fin (grid0.bound 0) => corePay m d c f) : sProp 𝕄) := by
  have hi : (iLoc d ↦{fullShare} m (iLoc d) : sProp 𝕄) ⊣⊢ iprop((iLoc d ↦{Transfers.shareDrop fullShare 32} m (iLoc d))
      ∗ bigSep (Finset.range 32) fun i => iLoc d ↦{Transfers.shareTokN fullShare i} m (iLoc d)) :=
    Transfers.pointsTo_toks_range (ℓ := iLoc d) (S := Finset.univ) (f := m (iLoc d)) fullShare 32
  have ht : (tLoc d ↦{fullShare} m (tLoc d) : sProp 𝕄) ⊣⊢ iprop((tLoc d ↦{Transfers.shareDrop fullShare 32} m (tLoc d))
      ∗ bigSep (Finset.range 32) fun i => tLoc d ↦{Transfers.shareTokN fullShare i} m (tLoc d)) :=
    Transfers.pointsTo_toks_range (ℓ := tLoc d) (S := Finset.univ) (f := m (tLoc d)) fullShare 32
  rw [bigSep_subs] at hi ht
  have hc : (bigSep Finset.univ fun c : Fin (grid0.bound 0) => corePay m d c f : sProp 𝕄)
      = iprop((bigSep Finset.univ fun c : Fin (grid0.bound 0) => bigSep Finset.univ fun s : Fin (grid0.bound 1) => iLoc d ↦{tq (coordsV c s)} m (iLoc d))
        ∗ (bigSep Finset.univ fun c : Fin (grid0.bound 0) => bigSep Finset.univ fun s : Fin (grid0.bound 1) => tLoc d ↦{tq (coordsV c s)} m (tLoc d))
        ∗ bigSep Finset.univ fun c : Fin (grid0.bound 0) => bigSep Finset.univ fun s : Fin (grid0.bound 1) => bigSep Finset.univ fun r : Fin 4 =>
            oLoc d ↦[oSet (coordsV c s) r]{fullShare} f) := by
    unfold corePay tilePay
    simp only [bigSep_sep']
  rw [hc, ← out_split]
  unfold rest
  constructor
  · iintro ⟨Hi, Ht, Ho⟩
    ihave Hi := hi.1 $$ Hi
    ihave Ht := ht.1 $$ Ht
    icases Hi with ⟨Hi, Hi'⟩
    icases Ht with ⟨Ht, Ht'⟩
    isplitl [Hi Ht]
    · isplitl [Hi]; · iexact Hi
      iexact Ht
    isplitl [Hi']; · iexact Hi'
    isplitl [Ht']; · iexact Ht'
    iexact Ho
  · iintro ⟨⟨Hi, Ht⟩, Hi', Ht', Ho⟩
    isplitl [Hi Hi']
    · iapply hi.2
      isplitl [Hi]; · iexact Hi
      iexact Hi'
    isplitl [Ht Ht']
    · iapply ht.2
      isplitl [Ht]; · iexact Ht
      iexact Ht'
    iexact Ho

end Cert.Proof.Rope

end
-- ==== Proof.Main.lean ====
/-
  The whole program's run: the host lines, the SparseCore call, the grid kernel, the last reshape, on every device; and
  what every final state holds.
-/
module

public import proofs.«01_k».proof.Proof.Host
public import proofs.«01_k».proof.Proof.Obl
public import Idealize.ShloMosaic.Lib.SparseCore.Quiescent

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The buffers' contents between the steps -/

/-- A TensorCore buffer as a buffer of the device. -/
abbrev rf (b : Ref sig .tc) : DevRef τ sig := Proc.devRef .tc b

/-- At launch; -/
def V0 (d : Dev nD) : Valuation τ sig (Elt F) := fun b => m (d, b)
/-- after the host lines; -/
def V1 (d : Dev nD) : Valuation τ sig (Elt F) := after preOps (V0 m d)
/-- after the SparseCore call; -/
def V2 (d : Dev nD) : Valuation τ sig (Elt F) := Function.update (V1 m d) (rf main_v30) (gat m d)
/-- after the grid kernel; -/
def V3 (d : Dev nD) : Valuation τ sig (Elt F) := left (V2 m) d
/-- at the end. -/
def V4 (d : Dev nD) : Valuation τ sig (Elt F) := lastOp.result (V3 m d)

/-- The three arrays of the SparseCore call. -/
def callRefs : Finset (DevRef τ sig) := {rf main_arg1, rf main_arg2, rf main_v30}

omit [FloatOps F] in
theorem callRefs_sub : callRefs ⊆ ucRefs := by decide

omit [FloatOps F] in
/-- Those three, held, one by one. -/
theorem held_call (d : Dev nD) (X : Valuation τ sig (Elt F)) :
    (held (T d) callRefs X : sProp 𝕄)
      = iprop((iLoc d ↦{fullShare} X (rf main_arg1)) ∗ (tLoc d ↦{fullShare} X (rf main_arg2)) ∗ (oLoc d ↦{fullShare} X (rf main_v30))) := by
  unfold held callRefs
  rw [SparseCore.bigSep_insert' (by decide), SparseCore.bigSep_insert' (by decide), bigSep_singleton]

theorem V1_arg1 (d : Dev nD) : V1 m d (rf main_arg1) = m (iLoc d) := preOps_keeps _ main_arg1 (by decide)
theorem V1_arg2 (d : Dev nD) : V1 m d (rf main_arg2) = m (tLoc d) := preOps_keeps _ main_arg2 (by decide)
theorem V1_v30 (d : Dev nD) : V1 m d (rf main_v30) = m (oLoc d) := preOps_keeps _ main_v30 (by decide)

theorem V2_v30 (d : Dev nD) : V2 m d (rf main_v30) = gat m d := Function.update_self ..
theorem V2_ne (d : Dev nD) (b : DevRef τ sig) (hb : b ≠ rf main_v30) : V2 m d b = V1 m d b := Function.update_of_ne hb ..

/-- Into the call: its arrays at their launch contents, the other buffers aside. -/
theorem split_call (d : Dev nD) :
    (held (T d) ucRefs (V1 m d) : sProp 𝕄)
      = iprop(((iLoc d ↦{fullShare} m (iLoc d)) ∗ (tLoc d ↦{fullShare} m (tLoc d)) ∗ (oLoc d ↦{fullShare} m (oLoc d))) ∗ held (T d) (ucRefs \ callRefs) (V1 m d)) := by
  rw [StableHlo.held_sub_split (T d) callRefs_sub, held_call, V1_arg1, V1_arg2, V1_v30]

/-- Out of the call: the rows gathered, everything else as before. -/
theorem join_call (d : Dev nD) :
    (held (T d) ucRefs (V2 m d) : sProp 𝕄)
      = iprop(((iLoc d ↦{fullShare} m (iLoc d)) ∗ (tLoc d ↦{fullShare} m (tLoc d)) ∗ (oLoc d ↦{fullShare} gat m d)) ∗ held (T d) (ucRefs \ callRefs) (V1 m d)) := by
  rw [StableHlo.held_sub_split (T d) callRefs_sub, held_call, V2_v30, V2_ne m d (rf main_arg1) (by decide), V2_ne m d (rf main_arg2) (by decide), V1_arg1, V1_arg2,
    StableHlo.held_congr (T d) (S := ucRefs \ callRefs) (V := V2 m d) (V' := V1 m d) fun b hb => V2_ne m d b fun e =>
      (Finset.mem_sdiff.mp hb).2 (e ▸ (by decide : rf main_v30 ∈ callRefs))]

/-! ## What the TensorCore gives the call and takes back -/

omit [FloatOps F] in
theorem st0_eq (d : Dev nD) :
    (bigSep Finset.univ fun c : Fin ((K (F := F)).nCore 0) => (P m).st 0 d c) = bigSep Finset.univ fun c : Fin (grid0.bound 0) => corePay m d c (m (oLoc d)) := rfl
omit [FloatOps F] in
theorem dn0_eq (d : Dev nD) :
    (bigSep Finset.univ fun c : Fin ((K (F := F)).nCore 0) => (P m).dn 0 d c) = bigSep Finset.univ fun c : Fin (grid0.bound 0) => corePay m d c (gat m d) := rfl

/-- From the buffers after the host lines to what the call takes. -/
theorem call_in (d : Dev nD) :
    (held (d.tc : Thread nD τ) ucRefs (after preOps (V0 m d)) : sProp 𝕄)
      ⊢ iprop((rest m d ∗ bigSep Finset.univ fun c : Fin ((K (F := F)).nCore 0) => (P m).st 0 d c) ∗ held (T d) (ucRefs \ callRefs) (V1 m d)) := by
  rw [st0_eq]
  refine (Entails.of_eq (split_call m d)).trans ?_
  exact sep_mono (call_split m d (m (oLoc d))).1 .rfl

/-- From what the call gives back to the buffers before the grid kernel. -/
theorem call_out (d : Dev nD) :
    iprop((rest m d ∗ bigSep Finset.univ fun c : Fin ((K (F := F)).nCore 0) => (P m).dn 0 d c) ∗ held (T d) (ucRefs \ callRefs) (V1 m d))
      ⊢ (held (T d) ucRefs (V2 m d) : sProp 𝕄) := by
  rw [dn0_eq, join_call]
  exact sep_mono (call_split m d (gat m d)).2 .rfl

/-! ## The ghost state the launch gives -/

/-- The launch element: the handshakes' rounds, the grid pipeline's, no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
/-- The second component of the certificate's algebra, owned, gives the grid pipeline's part. -/
theorem own_pair (x : UP) : (BI.own ((embR : Emb (UP × Counters) 𝕄) (x, 1)) : sProp 𝕄) ⊢ BI.own ((EP : Emb UP 𝕄) x) :=
  (own_pair_emb (embR : Emb (UP × Counters) 𝕄) x (1 : Counters)).trans sep_elim_left

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UP × Counters)) $$ Hu
  icases H with ⟨HH, HR⟩
  ihave HP := (own_pair (F := F) _) $$ HR
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

omit [FloatOps F] in
/-- After the one call the TensorCore owes nothing, and what it waits for from there on is no concern of the handshakes. -/
theorem tcSt_owes (d : Dev nD) :
    (K (F := F)).tcSt EH d ((0 : Fin 1).val + 1) ⊢ (iprop((∃ W, owes (T d) (0 : CellTallies nD τ sig (HIx 1)) W)
      ∗ ((∃ W, owes (T d) (0 : CellTallies nD τ sig (HIx 1)) W) -∗ (K (F := F)).tcSt EH d 1)) : sProp 𝕄) := by
  show (K (F := F)).tcSt EH d 1 ⊢ _
  unfold SparseCore.Cfg.tcSt
  rw [(K (F := F)).Otc_end d le_rfl]
  iintro ⟨⟨%W, -, H⟩, HR⟩
  isplitl [H]; · iexists W; iexact H
  iintro ⟨%W', H⟩
  isplitl [H]
  · iexists W'
    isplitr
    · ipureintro
      intro p _
      rcases p.2 with _ | q
      · exact Nat.zero_le _
      · exact ((K (F := F)).lev_some_le _ q).trans (by rw [show q = 0 from Subsingleton.elim _ _]; decide)
    · iexact H
  iexact HR

/-- What @main leaves: every unscoped buffer. -/
abbrev FIN (d : Dev nD) : sProp 𝕄 := held (T d) ucRefs (V4 m d)

omit [FloatOps F] in
/-- The launch's unscoped buffers. -/
theorem unscoped_held (d : Dev nD) : (unscopedBufs d (fun b => m ((SparseCore.T d : Thread nD τ).loc b)) : sProp 𝕄) = held (T d) ucRefs (V0 m d) := by
  have h := Pipeline.unscopedBufs_held (Ix := HIx 1) (Name := ℕ) (U := UU) (Lvl := ℕ) d (V0 m d)
  exact h

/-- @main on device `d`'s TensorCore, from what the launch deals it to every buffer at its final contents. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hh, Hts, -⟩, Hg⟩
  iapply (StableHlo.wp_seq 𝒱 none Set.univ d ucRefs _ preOps preOps_sub preOps_fresh (V0 m d)) $$ [Hb Hh]
  · isplitl [Hb]; · iexact Hb
    iexact Hh
  iintro ⟨Hb, Hh⟩
  rw [wp_bind]
  ihave Hh' := (call_in m d) $$ Hh
  icases Hh' with ⟨⟨Hr, Hc⟩, Hrest⟩
  iapply ((K (F := F)).wp_run (D (F := F)) 𝒱 (EH := EH) (P := P m) κ d 0) $$ [Hst Hc Hr Hrest Hb Hts Hg]
  isplitr; · iexact Hctx
  isplitl [Hst]; · iexact Hst
  isplitl [Hc]; · iexact Hc
  iintro ⟨Hst, Hdn⟩
  ihave Hh := (call_out m d) $$ [Hr Hdn Hrest]
  · isplitl [Hr Hdn]
    · isplitl [Hr]; · iexact Hr
      iexact Hdn
    iexact Hrest
  ihave Hst' := (tcSt_owes (F := F) d) $$ Hst
  icases Hst' with ⟨HO, Hst⟩
  rw [wp_bind]
  iapply (region_step (V2 m) d)
  isplitr [Hb Hh HO Hg]
  · iintro ⟨Hb, Hh, HO⟩
    rw [wp_bind]
    iapply (StableHlo.wp_hlo_within 𝒱 (T d) none Set.univ (op := lastOp) (S := ucRefs) lastOp_sub (V := V3 m d)) $$ [Hb Hh]
    · isplitl [Hb]; · iexact Hb
      iexact Hh
    iintro ⟨Hb, Hh⟩
    rw [wp_ret]; imodintro
    rw [wp_pure]; imodintro
    isplitl [Hst HO]; · iapply Hst $$ HO
    isplitl [Hh]; · iexact Hh
    isplitl [Hb] <;> iassumption
  isplitl [Hb]; · iexact Hb
  isplitl [Hh]; · iexact Hh
  isplitl [HO]; · iexact HO
  isplitr; · iapply (SparseCore.Cfg.ctx_levAts κ); iexact Hctx
  iexact Hg

/-! ## What a final state holds -/

/-- Every unscoped TensorCore buffer of the device holds its final contents. -/
def fq (d : Dev nD) (s' : Phys nD τ sig (Elt F)) : Prop := ∀ b ∈ ucRefs, s'.mem.mem (d, b) = V4 m d b

theorem hfin (d : Dev nD) (s' : Phys nD τ sig (Elt F)) : iprop(FIN m d ∗ SI s') ⊢ (⌜fq m d s'⌝ : sProp 𝕄) := by
  unfold FIN held
  exact fun x hx b hb => ((sep_mono (bigSep_elim hb) .rfl).trans ((sep_comm.1.trans (SI_pointsTo_agree (st := s') (ℓ := (d, b)) (I := Finset.univ) (q := fullShare) (f := V4 m d b))).trans
    (BI.pure_mono fun h => funext fun i => h i (Finset.mem_univ i)))) x hx

/-! ## The run -/

/-- Every unscoped TensorCore buffer ends at its final contents, every semaphore counter at zero. -/
def QC : PUnit × MemSt nD τ sig (Elt F) → Prop := fun r => (∀ d : Dev nD, ∀ b ∈ ucRefs, r.2.mem (d, b) = V4 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

/-! ## The final contents of the arguments and of the two results -/

theorem V4_ne (d : Dev nD) (b : Ref sig .tc) (hb : b ≠ main_v32) : V4 m d (rf b) = V3 m d (rf b) :=
  StableHlo.reshape_result_ne _ _ _ _ _ _ _ hb

/-- A buffer that is no result and that no host line writes keeps its launch contents. -/
theorem V4_keeps (d : Dev nD) (b : Ref sig .tc) (h32 : b ≠ main_v32) (h31 : ∀ w, Pipeline.arrRef spec1 w = b → (cfg1.win w).isOut = false)
    (h30 : rf b ≠ rf main_v30) (hpre : V1 m d (rf b) = m (d, rf b)) : V4 m d (rf b) = m (d, rf b) := by
  rw [V4_ne m d b h32]
  have h := Pipeline.afterRegion_keeps (dat (V2 m) d) (V2 m d) launch1.win.arr_inj (fun _ => rfl) b h31
  exact h.trans ((V2_ne m d _ h30).trans hpre)

theorem V4_arg0 (d : Dev nD) : V4 m d (rf main_arg0) = m (d, rf main_arg0) :=
  V4_keeps m d main_arg0 (by decide) (by decide) (by decide) (preOps_keeps _ main_arg0 (by decide))
theorem V4_arg1 (d : Dev nD) : V4 m d (rf main_arg1) = m (d, rf main_arg1) :=
  V4_keeps m d main_arg1 (by decide) (by decide) (by decide) (preOps_keeps _ main_arg1 (by decide))
theorem V4_arg2 (d : Dev nD) : V4 m d (rf main_arg2) = m (d, rf main_arg2) :=
  V4_keeps m d main_arg2 (by decide) (by decide) (by decide) (preOps_keeps _ main_arg2 (by decide))
theorem V4_arg3 (d : Dev nD) : V4 m d (rf main_arg3) = m (d, rf main_arg3) :=
  V4_keeps m d main_arg3 (by decide) (by decide) (by decide) (preOps_keeps _ main_arg3 (by decide))

/-- The second result is what the grid kernel leaves in its output array. -/
theorem V4_v31 (d : Dev nD) : V4 m d (rf main_v31) = (dat (V2 m) d).arrAt 3 cfg1.N := by
  rw [V4_ne m d main_v31 (by decide)]
  exact Pipeline.afterRegion_arr (dat (V2 m) d) (V2 m d) launch1.win.arr_inj 3

/-- The first result is the gathered rows, reshaped. -/
theorem V4_v32 (d : Dev nD) : V4 m d (rf main_v32) = shapeCast S4x4096x128 (gat m d : FVec F S16384x128 .f32) shapeCasts_S16384x128_S4x4096x128 := by
  have h : V3 m d (rf main_v30) = gat m d :=
    (Pipeline.afterRegion_keeps (dat (V2 m) d) (V2 m d) launch1.win.arr_inj (fun _ => rfl) main_v30 (by decide)).trans (V2_v30 m d)
  unfold V4 lastOp
  rw [StableHlo.reshape_result, h]
  rfl

omit [FloatOps F] in
theorem mem_ucRefs (b : Ref sig .tc) (h : (rf b).isScoped = false) : rf b ∈ ucRefs :=
  Finset.mem_filter.mpr ⟨Finset.mem_map.mpr ⟨b, Finset.mem_univ _, rfl⟩, by simp [h]⟩

/-- What the run's post-condition says of the arguments. -/
theorem QC_args {r : PUnit × MemSt nD τ sig (Elt F)} (h : QC m r) (d : Dev nD) :
    r.2.mem ((SparseCore.T d : Thread nD τ).loc main_arg0) = m ((SparseCore.T d : Thread nD τ).loc main_arg0) ∧ r.2.mem ((SparseCore.T d : Thread nD τ).loc main_arg1) = m ((SparseCore.T d : Thread nD τ).loc main_arg1)
      ∧ r.2.mem ((SparseCore.T d : Thread nD τ).loc main_arg2) = m ((SparseCore.T d : Thread nD τ).loc main_arg2) ∧ r.2.mem ((SparseCore.T d : Thread nD τ).loc main_arg3) = m ((SparseCore.T d : Thread nD τ).loc main_arg3) :=
  ⟨(h.1 d _ (mem_ucRefs main_arg0 rfl)).trans (V4_arg0 m d), (h.1 d _ (mem_ucRefs main_arg1 rfl)).trans (V4_arg1 m d),
    (h.1 d _ (mem_ucRefs main_arg2 rfl)).trans (V4_arg2 m d), (h.1 d _ (mem_ucRefs main_arg3 rfl)).trans (V4_arg3 m d)⟩

end Cert.Proof.Rope

end
-- ==== Proof.Pre.lean ====
/-
  What the two preconditions say of the arguments: every position is below 8192, and, for the second one,
  the sine argument is the table of sines.
-/
module

public import proofs.«01_k».proof.Proof.Tile
public import proofs.«01_k».proof.Proof.Gen.Pre_ids_in_cache
public import proofs.«01_k».proof.Proof.Gen.Pre_sin_is_cache
public import proofs.«01_k».proof.Proof.Gen.ReferenceIdeal
public import Idealize.ShloMosaic.Lib.ReduceAll
public import Idealize.ShloMosaic.PureOps.Ideal

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The range of the positions -/

/-- A word that is, as a signed number, at least zero and below 8192 is below 8192 as a natural number. -/
theorem word_small (w : BitVec 32) (h : IntOp.andi (IntOp.cmpi .sge w 0#32) (IntOp.cmpi .slt w 8192#32) = 1#1) : w.toNat < 8192 := by
  unfold IntOp.cmpi IntOp.andi at h
  have h2 : (BitVec.sle 0#32 w && BitVec.slt w 8192#32) = true := by
    cases ha : BitVec.sle 0#32 w <;> cases hb : BitVec.slt w 8192#32 <;> simp [ha, hb] at h ⊢
  rw [Bool.and_eq_true, BitVec.sle_eq_decide, BitVec.slt_eq_decide, decide_eq_true_eq, decide_eq_true_eq] at h2
  have h8 : (8192#32 : BitVec 32).toInt = 8192 := by decide
  have h0 : (0#32 : BitVec 32).toInt = 0 := by decide
  rw [h8, h0, BitVec.toInt_eq_toNat_cond] at h2
  have := w.isLt
  split at h2 <;> omega

/-- The one index of a scalar array. -/
def pt : Cert.Pre_ids_in_cache.S_.Idx := fun i => i.elim0

theorem subsingleton_pt : Subsingleton Cert.Pre_ids_in_cache.S_.Idx := ⟨fun a b => funext fun i => i.elim0⟩

/-- The printed range test, all of it one, bounds every position. -/
theorem range_of_all (a : IVec S4x4096 32) (h : Host.reduce IntOp.andi
      (andi (cmpi .sge a (broadcastInDim S4x4096 ![] Cert.Pre_ids_in_cache.Gen.facts.bcast_S_S4x4096 (constantI Cert.Pre_ids_in_cache.S_ 32 0#32)))
        (cmpi .slt a (broadcastInDim S4x4096 ![] Cert.Pre_ids_in_cache.Gen.facts.bcast_S_S4x4096 (constantI Cert.Pre_ids_in_cache.S_ 32 8192#32))))
      (constantI Cert.Pre_ids_in_cache.S_ 1 1#1) Cert.Pre_ids_in_cache.Gen.facts.reducesTo_S4x4096_S_d0_1 Cert.Pre_ids_in_cache.Gen.facts.h_S_ pt = 1#1)
    (j : S4x4096.Idx) : (a j).toNat < 8192 := by
  haveI := subsingleton_pt
  exact word_small (a j) (Host.reduce_andi_all _ _ _ _ _ h j)

/-- The first precondition bounds every position. -/
theorem range_of_ids [FloatOps F] (x0 : FVec F S4x4096x2048 .f32) (a : IVec S4x4096 32) (x2 x3 : FVec F S8192x128 .f32)
    (h : Cert.Pre_ids_in_cache.fn (F := F) x0 a x2 x3 = fun _ => 1#1) (j : S4x4096.Idx) : (a j).toNat < 8192 :=
  range_of_all a (congrFun h pt) j

/-- Two bits whose conjunction is one are both one. -/
theorem both_one (a b : BitVec 1) (h : IntOp.andi a b = 1#1) : a = 1#1 ∧ b = 1#1 := by
  revert a b; decide

/-! ## The table of sines -/

section Table
variable [FloatOps F]
open Cert.Pre_sin_is_cache (S8192x64 S8192x1 S8192)

/-- The inverse frequencies, as the host computes them. -/
def invFreq : FVec F Cert.Pre_sin_is_cache.S64 .f32 :=
  Host.divf (broadcastInDim Cert.Pre_sin_is_cache.S64 ![] Cert.Pre_sin_is_cache.Gen.bcast_S_S64 (constant Cert.Pre_sin_is_cache.S_ .f32 0x3F800000#32))
    (Host.powf (broadcastInDim Cert.Pre_sin_is_cache.S64 ![] Cert.Pre_sin_is_cache.Gen.bcast_S_S64 (constant Cert.Pre_sin_is_cache.S_ .f32 0x461C4000#32))
      (Host.divf (addf (broadcastInDim Cert.Pre_sin_is_cache.S64 ![] Cert.Pre_sin_is_cache.Gen.bcast_S_S64 (constant Cert.Pre_sin_is_cache.S_ .f32 0x00000000#32))
          (mulf (broadcastInDim Cert.Pre_sin_is_cache.S64 ![] Cert.Pre_sin_is_cache.Gen.bcast_S_S64 (constant Cert.Pre_sin_is_cache.S_ .f32 0x40000000#32)) (sitofp .f32 (iotaInDim Cert.Pre_sin_is_cache.S64 32 0))))
        (broadcastInDim Cert.Pre_sin_is_cache.S64 ![] Cert.Pre_sin_is_cache.Gen.bcast_S_S64 (constant Cert.Pre_sin_is_cache.S_ .f32 0x43000000#32))))

/-- The angles: a position times an inverse frequency. -/
def angles : FVec F S8192x64 .f32 :=
  mulf (broadcastInDim S8192x64 ![0, 1] Cert.Pre_sin_is_cache.Gen.bcast_S8192x1_S8192x64_0_1 (broadcastInDim S8192x1 ![0] Cert.Pre_sin_is_cache.Gen.bcast_S8192_S8192x1_0 (sitofp .f32 (iotaInDim S8192 32 0))))
    (broadcastInDim S8192x64 ![0, 1] Cert.Pre_sin_is_cache.Gen.bcast_S1x64_S8192x64_0_1 (broadcastInDim Cert.Pre_sin_is_cache.S1x64 ![1] Cert.Pre_sin_is_cache.Gen.bcast_S64_S1x64_1 invFreq))

/-- The table of sines: each half of a row holds the sines of the row's angles. -/
def sinTable : FVec F Cert.Pre_sin_is_cache.S8192x128 .f32 :=
  Host.sin (concatenate Cert.Pre_sin_is_cache.S8192x128 1 [⟨S8192x64, angles⟩, ⟨S8192x64, angles⟩] Cert.Pre_sin_is_cache.Gen.concatenates_S8192x64_S8192x64_S8192x128_d1)

/-- The second precondition bounds every position, and compares the sine argument with the table place by place. -/
theorem of_sin (x0 : FVec F Cert.Pre_sin_is_cache.S4x4096x2048 .f32) (a : IVec Cert.Pre_sin_is_cache.S4x4096 32) (x2 x3 : FVec F Cert.Pre_sin_is_cache.S8192x128 .f32)
    (h : Cert.Pre_sin_is_cache.fn (F := F) x0 a x2 x3 = fun _ => 1#1) :
    (∀ j, (a j).toNat < 8192) ∧ ∀ j, cmpf .oeq x3 sinTable j = 1#1 := by
  haveI := subsingleton_pt
  have h1 := congrFun h pt
  obtain ⟨ha, hb⟩ := both_one _ _ h1
  exact ⟨fun j => range_of_all a ha j, fun j => Host.reduce_andi_all _ _ _ _ _ hb j⟩

end Table

/-- In the extended reals, the second precondition makes the sine argument equal to the table. -/
theorem eq_table (x0 : FVec Ideal Cert.Pre_sin_is_cache.S4x4096x2048 .f32) (a : IVec Cert.Pre_sin_is_cache.S4x4096 32)
    (x2 x3 : FVec Ideal Cert.Pre_sin_is_cache.S8192x128 .f32)
    (h : Cert.Pre_sin_is_cache.fn (F := Ideal) x0 a x2 x3 = fun _ => 1#1) (j : Cert.Pre_sin_is_cache.S8192x128.Idx) : x3 j = sinTable j := by
  have hj := (of_sin x0 a x2 x3 h).2 j
  have hj' : BitVec.ofBool (decide ((x3 j : EReal) = sinTable j)) = 1#1 := hj
  cases hd : decide ((x3 j : EReal) = sinTable j)
  · rw [hd] at hj'; exact absurd hj' (by decide)
  · exact of_decide_eq_true hd

end Cert.Proof.Rope

end
-- ==== Proof.Frames.lean ====
/-
  The frames: both readings of the kernel's program, and the reference, run to the end, leave their arguments as
  they were and every semaphore counter at zero.
-/
module

public import proofs.«01_k».proof.Defs
public import proofs.«01_k».proof.Proof.Main
public import proofs.«01_k».proof.Proof.Pre
public import proofs.«01_k».proof.Proof.Gen.Kernel
public import proofs.«01_k».proof.Proof.Gen.ReferenceIdeal.Run

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The run of the kernel's program, at any float values: arguments unchanged, counters at zero. -/
theorem run_frame [FloatOps F] [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (Cert.KernelIdeal.defs (F := F)) _ _).mono (fun _ h => ⟨fun c => QC_args m h c, h.2⟩) (run_main m ρ hpre)

/-- The two printings of the kernel have the same body table. -/
theorem bodies_eq [FloatOps F] : Cert.Kernel.defs₀ (F := F) = Cert.KernelIdeal.defs₀ (F := F) := by
  funext p ℓ a
  match p, ℓ, a with
  | .tc, 0, a => rfl
  | .tc, 1, a => rfl
  | .scVector c s, 0, a => rfl
  | .scVector c s, 1, a => rfl
  | .scScalar c, 0, a => rfl
  | .scScalar c, 1, a => rfl

theorem defs_eq [FloatOps F] : Cert.Kernel.defs (F := F) = Cert.KernelIdeal.defs (F := F) :=
  congrArg (fun b => Cert.Kernel.sc.defs (Pipeline.defs (Cert.Kernel.pcfgs (F := F)) b)) bodies_eq

/-- The frame again, for a body table known to be the program's. -/
theorem run_frame_of [FloatOps F] [∀ e, Nonempty (Elt F e)] (defs' : Defs nD τ sig (Elt F) (SparseCore.Sig (Pipeline.Sig Λ₀ (Fin 1) fun p => (pcfgs (F := F) p).Adm) 1))
    (hd : defs' = Cert.KernelIdeal.defs (F := F)) (m : (ℓ : Loc nD τ sig) → Buf (Elt F) ℓ) (ρ : Dev nD → PrngReg) (hpre : PreOK m) :
    θ_run defs' (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  subst hd; exact run_frame m ρ hpre

set_option maxHeartbeats 4000000 in
theorem frame_kernel : Cert.quiescent_Kernel (hKernel := Cert.Kernel.Gen.facts) (hPre_ids_in_cache := Cert.Pre_ids_in_cache.Gen.facts) :=
  fun m ρ hp => run_frame_of (F := Bits) (Cert.Kernel.defs (F := Bits)) defs_eq m ρ fun d j => range_of_ids _ _ _ _ (hp d) j

theorem frame_ideal : Cert.quiescent_KernelIdeal (hKernelIdeal := Cert.KernelIdeal.Gen.facts) (hPre_ids_in_cache := Cert.Pre_ids_in_cache.Gen.facts) :=
  fun m ρ hp => run_frame (F := Ideal) m ρ fun d j => range_of_ids _ _ _ _ (hp d) j

theorem frame_ideal_sin : Cert.quiescent_KernelIdeal_pre_sin_is_cache (hKernelIdeal := Cert.KernelIdeal.Gen.facts) (hPre_sin_is_cache := Cert.Pre_sin_is_cache.Gen.facts) :=
  fun m ρ hp => run_frame (F := Ideal) m ρ fun d j => (of_sin _ _ _ _ (hp d)).1 j

/-- The reference has no semaphore, and no line of it writes an argument. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

theorem frame_reference_sin :
    Cert.quiescent_ReferenceIdeal_pre_sin_is_cache (hReferenceIdeal := Cert.ReferenceIdeal.Gen.facts) (hPre_sin_is_cache := Cert.Pre_sin_is_cache.Gen.facts) :=
  fun m ρ _ => frame_reference m ρ trivial

end Cert.Proof.Rope

end
-- ==== Proof.Angles.lean ====
/-
  The two tables of angles in the extended reals, and the grid kernel's block read with them: by the addition
  formula each place holds the sine of its position times the column's inverse frequency.
-/
module

public import proofs.«01_k».proof.Proof.Pre
public import proofs.«01_k».proof.Proof.Gen.KernelIdeal.Skeleton
public import Idealize.ShloMosaic.Lib.Pointwise
public import Idealize.ShloMosaic.Lib.IdealHost

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open scoped BigOperators

variable {F : FTy → Type}

local notation "𝕄" => MT nD τ sig (HIx 1) (Elt F) ℕ UU ℕ

/-! ## Words -/

/-- A one-bit test of equality, widened to a word and converted, is one where the words agree and zero elsewhere. -/
theorem hot_eq (w : BitVec 32) (k : ℕ) (hk : k < 128) :
    (FloatOps.sitofp (F := Ideal) FTy.f32 (BitVec.setWidth 32 (IntOp.cmpi .eq w (BitVec.ofNat 32 k))) : EReal)
      = if w.toNat = k then 1 else 0 := by
  show ((((BitVec.setWidth 32 (IntOp.cmpi .eq w (BitVec.ofNat 32 k))).toInt : ℤ) : ℝ) : EReal) = _
  have e : IntOp.cmpi .eq w (BitVec.ofNat 32 k) = if w.toNat = k then 1#1 else 0#1 := by
    show BitVec.ofBool (w == BitVec.ofNat 32 k) = _
    by_cases h : w.toNat = k
    · have hw : w = BitVec.ofNat 32 k := by rw [← h, BitVec.ofNat_toNat, BitVec.setWidth_eq]
      rw [if_pos h, ← hw, beq_self_eq_true]; rfl
    · have hw : w ≠ BitVec.ofNat 32 k := fun hw => h (by rw [hw, BitVec.toNat_ofNat, Nat.mod_eq_of_lt (by omega)])
      have hb : (w == BitVec.ofNat 32 k) = false := by simpa using hw
      rw [if_neg h, hb]; rfl
  rw [e]
  split
  · norm_num
  · norm_num

/-- Row `w` of a table, picked by multiplying with the row's indicator and adding up. -/
theorem hot_sum (w : BitVec 32) (hw : w.toNat < 128) (t : Fin 128 → EReal) :
    (∑ k : Fin 128, (FloatOps.sitofp (F := Ideal) FTy.f32 (BitVec.setWidth 32 (IntOp.cmpi .eq w (BitVec.ofNat 32 k.val))) : EReal) * t k)
      = t ⟨w.toNat, hw⟩ := by
  rw [Finset.sum_eq_single (⟨w.toNat, hw⟩ : Fin 128)]
  · rw [hot_eq w _ hw, if_pos rfl, one_mul]
  · intro k _ hk
    rw [hot_eq w _ k.isLt, if_neg (fun h => hk (Fin.ext h.symm)), zero_mul]
  · intro h; exact absurd (Finset.mem_univ _) h

/-- Shifted right by six, a small word is its quotient by 64. -/
theorem high_part (w : BitVec 32) (hw : w.toNat < 8192) : (IntOp.shrsi .vector w 6#32).toNat = w.toNat / 64 := by
  have h6 : (6#32 : BitVec 32).toNat = 6 := by decide
  have hm : w.msb = false := by
    rw [BitVec.msb_eq_decide]; simp; omega
  unfold IntOp.shrsi
  rw [if_pos (by decide)]
  show (w.sshiftRight (6#32 : BitVec 32).toNat).toNat = _
  rw [h6, BitVec.sshiftRight_eq_of_msb_false hm, BitVec.toNat_ushiftRight, Nat.shiftRight_eq_div_pow]

/-- Masked by 63, a word is its remainder by 64. -/
theorem low_part (w : BitVec 32) : (IntOp.andi w 63#32).toNat = w.toNat % 64 := by
  show (w &&& 63#32).toNat = _
  rw [BitVec.toNat_and]
  have : (63#32 : BitVec 32).toNat = 2 ^ 6 - 1 := by decide
  rw [this, Nat.and_two_pow_sub_one_eq_mod]

/-- A small natural number, as a word read signed and converted, is itself. -/
theorem conv_nat (k : ℕ) (hk : k < 8192) : (FloatOps.sitofp (F := Ideal) FTy.f32 (BitVec.ofNat 32 k) : EReal) = ((k : ℝ) : EReal) := by
  show ((((BitVec.ofNat 32 k).toInt : ℤ) : ℝ) : EReal) = _
  have : (BitVec.ofNat 32 k).toInt = (k : ℤ) := by
    rw [BitVec.toInt_eq_toNat_cond, BitVec.toNat_ofNat, Nat.mod_eq_of_lt (by omega)]
    rw [if_pos (by omega)]
  rw [this]; norm_num

/-! ## The constants -/

/-- The pattern of 64. -/
theorem pat_64 : Ideal.ofBits .f32 0x42800000#32 = ((64 : ℝ) : EReal) := by
  simp [Ideal.ofBits, Ideal.ieee, -EReal.coe_mul]; norm_num

/-- The pattern of 2. -/
theorem pat_2 : Ideal.ofBits .f32 0x40000000#32 = ((2 : ℝ) : EReal) := by
  simp [Ideal.ofBits, Ideal.ieee, -EReal.coe_mul]; norm_num

/-- The pattern of 128. -/
theorem pat_128 : Ideal.ofBits .f32 0x43000000#32 = ((128 : ℝ) : EReal) := by
  simp [Ideal.ofBits, Ideal.ieee, -EReal.coe_mul]; norm_num

/-- The pattern of ten thousand. -/
theorem pat_base : Ideal.ofBits .f32 0x461C4000#32 = ((10000 : ℝ) : EReal) := by
  simp [Ideal.ofBits, Ideal.ieee, -EReal.coe_mul]; norm_num

/-- A quotient of two reals, the divisor not zero, is their real quotient. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-! ## The frequencies and the tables -/

/-- The inverse frequency of half-column `j`: ten thousand to the power `-2j/128`. -/
def freq (j : ℕ) : ℝ := 1 / (10000 : ℝ) ^ (2 * (j : ℝ) / 128)

/-- The host's inverse frequencies are these real numbers. -/
theorem invFreq_at (j : Fin 64) : invFreq (F := Ideal) (ix1 j) = ((freq j.val : ℝ) : EReal) := by
  pointwise [invFreq]
  rw [conv_nat _ (by omega), pat_2, pat_128, pat_base, ← EReal.coe_mul, div_real _ _ (by norm_num)]
  show Ideal.div 1 (((10000 : ℝ) ^ (2 * (j.val : ℝ) / 128) : ℝ) : EReal) = _
  rw [show (1 : EReal) = ((1 : ℝ) : EReal) by norm_cast, div_real _ _ (Real.rpow_pos_of_pos (by norm_num) _).ne']
  rfl

/-- Row `p` of the table of sines: the sine of `p` times the column's inverse frequency. -/
theorem sinTable_at (p : Fin 8192) (c : Fin 128) :
    sinTable (F := Ideal) (ix2 p c) = ((Real.sin (p.val * freq (c.val % 64)) : ℝ) : EReal) := by
  pointwise [sinTable, angles]
  rw [conv_nat _ p.isLt]
  split
  · next h =>
    rw [invFreq_at, ← EReal.coe_mul, Nat.mod_eq_of_lt h]; rfl
  · next h =>
    have : c.val % 64 = c.val - 64 := by omega
    rw [invFreq_at, ← EReal.coe_mul, this]; rfl

section Any
variable [FloatOps F]

/-- The angles of the coarse table: 64 times the row, times an inverse frequency. -/
def coarseAng : FVec F S128x64 .f32 :=
  mulf (broadcastInDim S128x64 ![0, 1] bcast_S128x1_S128x64_0_1 (broadcastInDim S128x1 ![0] bcast_S128_S128x1_0
      (mulf (broadcastInDim S128 ![] bcast_S_S128 (constant S_ .f32 0x42800000#32)) (sitofp .f32 (iotaInDim S128 32 0)))))
    (broadcastInDim S128x64 ![0, 1] bcast_S1x64_S128x64_0_1 (broadcastInDim S1x64 ![1] bcast_S64_S1x64_1 (invFreq (F := F))))

/-- The angles of the fine table: the row times an inverse frequency. -/
def fineAng : FVec F S128x64 .f32 :=
  mulf (broadcastInDim S128x64 ![0, 1] bcast_S128x1_S128x64_0_1 (broadcastInDim S128x1 ![0] bcast_S128_S128x1_0
      (sitofp .f32 (iotaInDim S128 32 0))))
    (broadcastInDim S128x64 ![0, 1] bcast_S1x64_S128x64_0_1 (broadcastInDim S1x64 ![1] bcast_S64_S1x64_1 (invFreq (F := F))))

/-- The sines of a table of angles, then its cosines, side by side. -/
def sinCos (x : FVec F S128x64 .f32) : FVec F S128x128 .f32 :=
  concatenate S128x128 1 [⟨S128x64, Host.sin x⟩, ⟨S128x64, Host.cos x⟩] concatenates_S128x64_S128x64_S128x128_d1

end Any

/-- The coarse angle of row `k` and half-column `j`. -/
theorem coarseAng_at (k : Fin 128) (j : Fin 64) : coarseAng (F := Ideal) (ix2 k j) = ((64 * k.val * freq j.val : ℝ) : EReal) := by
  pointwise [coarseAng]
  rw [conv_nat _ (by omega), pat_64, invFreq_at, ← EReal.coe_mul, ← EReal.coe_mul]

/-- The fine angle of row `k` and half-column `j`. -/
theorem fineAng_at (k : Fin 128) (j : Fin 64) : fineAng (F := Ideal) (ix2 k j) = ((k.val * freq j.val : ℝ) : EReal) := by
  pointwise [fineAng]
  rw [conv_nat _ (by omega), invFreq_at, ← EReal.coe_mul]

/-- The left half of a side-by-side table holds sines. -/
theorem sinCos_left (x : FVec Ideal S128x64 .f32) (k : Fin 128) (c : Fin 128) (hc : c.val < 64) :
    sinCos x (ix2 k c) = Ideal.sin (x (ix2 k ⟨c.val, hc⟩)) := by
  pointwise [sinCos]
  rw [dif_pos hc]

/-- The right half of a side-by-side table holds cosines. -/
theorem sinCos_right (x : FVec Ideal S128x64 .f32) (k : Fin 128) (c : Fin 128) (j : ℕ) (hj : j < 64) (hc : c.val = 64 + j) :
    sinCos x (ix2 k c) = Ideal.cos (x (ix2 k ⟨j, hj⟩)) := by
  pointwise [sinCos]
  rw [dif_neg (by omega)]
  congr 3
  exact Fin.ext (by show c.val - 64 = j; omega)

/-! ## The grid kernel's block -/

/-- What the grid kernel stores at a place, in terms of the two tables' rows `a` and `b` that the position picks, and of
    the half-column `j` and its partner `j'`. -/
theorem pay_rows (v0 : Vec Ideal S4x1024 .i32) (x y : Vec Ideal S128x128 .f32) (r : Fin 4) (n : Fin 1024) (c : Fin 128)
    (h : (v0 (ix2 r n)).toNat < 8192) (a b j j' : Fin 128) (ha : (v0 (ix2 r n)).toNat / 64 = a.val)
    (hb : (v0 (ix2 r n)).toNat % 64 = b.val) (hj : c.val % 64 = j.val) (hj' : j'.val = 64 + j.val) :
    k1_pay1 (F := Ideal) v0 x y (ix3 r n c)
      = ((x (ix2 a j) * y (ix2 b j') + x (ix2 a j') * y (ix2 b j) : EReal)) := by
  have eh : ∀ k : Fin 128, (∑ z : Fin 128, (FloatOps.sitofp (F := Ideal) FTy.f32 (BitVec.setWidth 32
        (IntOp.cmpi .eq (IntOp.shrsi .vector (v0 (ix2 r n)) 6#32) (BitVec.ofNat 32 z.val))) : EReal) * x (ix2 z k))
      = x (ix2 a k) := fun k => by
    have hw := (high_part _ h).trans ha
    rw [hot_sum (IntOp.shrsi .vector (v0 (ix2 r n)) 6#32) (by rw [hw]; exact a.isLt) fun z => x (ix2 z k)]
    simp only [hw]
  have el : ∀ k : Fin 128, (∑ z : Fin 128, (FloatOps.sitofp (F := Ideal) FTy.f32 (BitVec.setWidth 32
        (IntOp.cmpi .eq (IntOp.andi (v0 (ix2 r n)) 63#32) (BitVec.ofNat 32 z.val))) : EReal) * y (ix2 z k))
      = y (ix2 b k) := fun k => by
    have hw := (low_part (v0 (ix2 r n))).trans hb
    rw [hot_sum (IntOp.andi (v0 (ix2 r n)) 63#32) (by rw [hw]; exact b.isLt) fun z => y (ix2 z k)]
    simp only [hw]
  clear h ha hb
  pointwise [k1_pay1]
  split
  · next hc =>
    have e1 : c = j := Fin.ext (by omega)
    have e2 : (⟨64 + c.val, by omega⟩ : Fin 128) = j' := Fin.ext (by show 64 + c.val = j'.val; omega)
    rw [e2, e1, eh j, el j', eh j', el j]
  · next hc =>
    have e1 : (⟨c.val - 64, by omega⟩ : Fin 128) = j := Fin.ext (by show c.val - 64 = j.val; omega)
    have e2 : (⟨64 + (c.val - 64), by omega⟩ : Fin 128) = j' := Fin.ext (by show 64 + (c.val - 64) = j'.val; omega)
    rw [e2, e1, eh j, el j', eh j', el j]

/-- The addition formula, in the extended reals, at a position split by 64. -/
theorem add_formula (p : ℕ) (f : ℝ) :
    ((((Real.sin (64 * (p / 64 : ℕ) * f) : ℝ) : EReal) * ((Real.cos ((p % 64 : ℕ) * f) : ℝ) : EReal)
        + ((Real.cos (64 * (p / 64 : ℕ) * f) : ℝ) : EReal) * ((Real.sin ((p % 64 : ℕ) * f) : ℝ) : EReal)) : EReal)
      = ((Real.sin (p * f) : ℝ) : EReal) := by
  rw [← EReal.coe_mul, ← EReal.coe_mul, ← EReal.coe_add, ← Real.sin_add, ← add_mul]
  have e : (64 * ((p / 64 : ℕ) : ℝ) + ((p % 64 : ℕ) : ℝ)) = (p : ℝ) := by
    exact_mod_cast Nat.div_add_mod p 64
  rw [e]

/-- The grid kernel's block holds the sine of each position times the column's inverse frequency. -/
theorem pay_sin (v0 : Vec Ideal S4x1024 .i32) (r : Fin 4) (n : Fin 1024) (c : Fin 128) (h : (v0 (ix2 r n)).toNat < 8192) :
    k1_pay1 (F := Ideal) v0 (sinCos (coarseAng (F := Ideal))) (sinCos (fineAng (F := Ideal))) (ix3 r n c)
      = ((Real.sin ((v0 (ix2 r n)).toNat * freq (c.val % 64)) : ℝ) : EReal) := by
  have hj : c.val % 64 < 64 := Nat.mod_lt _ (by norm_num)
  rw [pay_rows v0 _ _ r n c h ⟨(v0 (ix2 r n)).toNat / 64, by omega⟩ ⟨(v0 (ix2 r n)).toNat % 64, by omega⟩
      ⟨c.val % 64, by omega⟩ ⟨64 + c.val % 64, by omega⟩ rfl rfl rfl rfl,
    sinCos_left coarseAng _ ⟨c.val % 64, by omega⟩ hj, sinCos_left fineAng _ ⟨c.val % 64, by omega⟩ hj,
    sinCos_right coarseAng _ _ _ hj rfl, sinCos_right fineAng _ _ _ hj rfl]
  simp only [coarseAng_at, fineAng_at]
  exact add_formula _ _

end Cert.Proof.Rope

end
-- ==== Proof.Out.lean ====
/-
  The array of sines after the grid kernel, place by place.
-/
module

public import proofs.«01_k».proof.Proof.Angles
public import proofs.«01_k».proof.Proof.Main
public import Idealize.ShloMosaic.Lib.Pipeline.ValueKit

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
set_option maxRecDepth 16384

variable {F : FTy → Type}

local notation "𝕄" => MT nD τ sig (HIx 1) (Elt F) ℕ UU ℕ

section Any
variable [FloatOps F] (m : (ℓ : Loc nD τ sig) → Buf (Elt F) ℓ)

/-- The host lines leave the coarse table in its buffer. -/
theorem V1_v26 (d : Dev nD) : V1 m d (rf main_v26) = sinCos (coarseAng (F := F)) := by
  show after preOps (V0 m d) (rf main_v26) = _
  unfold preOps
  after_results_simp
  rfl

/-- The host lines leave the fine table in its buffer. -/
theorem V1_v29 (d : Dev nD) : V1 m d (rf main_v29) = sinCos (fineAng (F := F)) := by
  show after preOps (V0 m d) (rf main_v29) = _
  unfold preOps
  after_results_simp
  rfl

theorem idx0 : ∀ t : Fin cfg1.N, win1_0.index t = ![0, t.val] := by decide +kernel
theorem idx1 : ∀ t : Fin cfg1.N, win1_1.index t = ![0, 0] := by decide +kernel
theorem idx2 : ∀ t : Fin cfg1.N, win1_2.index t = ![0, 0] := by decide +kernel
theorem idx3 : ∀ t : Fin cfg1.N, win1_3.index t = ![0, t.val, 0] := by decide +kernel

/-- The coarse table's block is the whole table. -/
theorem blk_coarse (d : Dev nD) (t : Fin cfg1.N) : blk (V2 m) d 1 t = sinCos (coarseAng (F := F)) := by
  funext y
  rw [← V1_v26 m d, ← V2_ne m d (rf main_v26) (by decide)]
  show V2 m d (rf main_v26) _ = V2 m d (rf main_v26) _
  congr 1
  funext a
  apply Fin.ext
  blk_simp [idx1 t]
  fin_cases a <;> simp <;> rfl

/-- The fine table's block is the whole table. -/
theorem blk_fine (d : Dev nD) (t : Fin cfg1.N) : blk (V2 m) d 2 t = sinCos (fineAng (F := F)) := by
  funext y
  rw [← V1_v29 m d, ← V2_ne m d (rf main_v29) (by decide)]
  show V2 m d (rf main_v29) _ = V2 m d (rf main_v29) _
  congr 1
  funext a
  apply Fin.ext
  blk_simp [idx2 t]
  fin_cases a <;> simp <;> rfl

/-- A block of positions, place by place: block `t` begins at column `1024 t`. -/
theorem blk_pos (d : Dev nD) (t : Fin cfg1.N) (r : Fin 4) (n : Fin 1024) (q : Fin 4096) (hq : q.val = 1024 * t.val + n.val) :
    blk (V2 m) d 0 t (ix2 r n) = m (d, rf main_arg1) (ix2 r q) := by
  have e : V2 m d (rf main_arg1) = m (d, rf main_arg1) := (V2_ne m d (rf main_arg1) (by decide)).trans (V1_arg1 m d)
  rw [← e]
  show V2 m d (rf main_arg1) _ = V2 m d (rf main_arg1) _
  congr 1
  funext a
  apply Fin.ext
  blk_simp [idx0 t]
  fin_cases a
  · simp
  · simp; omega

end Any

/-- The sines of the positions: place `(r, q, c)` holds the sine of position `(r, q)` times the inverse frequency of column `c`. -/
def sines (a : IVec S4x4096 32) : FVec Ideal S4x4096x128 .f32 :=
  fun i => ((Real.sin ((a (ix2 (i 0) (i 1))).toNat * freq ((i 2).val % 64)) : ℝ) : EReal)

/-- The grid kernel leaves its output array at the sines of the positions. -/
theorem arr_sines (m : (ℓ : Loc nD τ sig) → Buf (Elt Ideal) ℓ) (d : Dev nD) (hpre : PreOK m) :
    (dat (V2 m) d).arrAt 3 cfg1.N = sines (m (d, rf main_arg1)) := by
  refine (dat (V2 m) d).arrAt_eq_of_covers 3 _ (by decide +kernel) fun t hf y => ?_
  blk_simp
  show k1_pay1 (F := Ideal) (blk (V2 m) d 0 t) (blk (V2 m) d 1 t) (blk (V2 m) d 2 t) y = _
  rw [blk_coarse, blk_fine]
  have ht : t.val < 4 := t.isLt
  obtain ⟨r, n, c, rfl⟩ : ∃ (r : Fin 4) (n : Fin 1024) (c : Fin 128), y = ix3 r n c := ⟨y 0, y 1, y 2, eq_ix3 y⟩
  have e0 : (((win1_3.blk t).view.emb (ix3 r n c)) 0).val = r.val := by blk_simp [idx3 t]
  have e1 : (((win1_3.blk t).view.emb (ix3 r n c)) 1).val = 1024 * t.val + n.val := by blk_simp [idx3 t]; simp; omega
  have e2 : (((win1_3.blk t).view.emb (ix3 r n c)) 2).val = c.val := by blk_simp [idx3 t]
  have hb := blk_pos m d t r n ⟨1024 * t.val + n.val, by omega⟩ rfl
  rw [pay_sin (blk (V2 m) d 0 t) r n c (by rw [hb]; exact hpre d _), hb]
  generalize (win1_3.blk t).view.emb (ix3 r n c) = z at e0 e1 e2 ⊢
  unfold sines
  rw [e2, show z 0 = r from Fin.ext e0, show z 1 = (⟨1024 * t.val + n.val, by omega⟩ : Fin 4096) from Fin.ext e1]

end Cert.Proof.Rope

end
-- ==== Proof.Ref.lean ====
/-
  The reference's lookup, place by place: where every position is below 8192 it reads the table's row.
-/
module

public import proofs.«01_k».proof.Proof.Gen.ReferenceIdeal
public import Idealize.ShloMosaic.Lib.ReduceAll
public import Idealize.ShloMosaic.Lib.Pointwise

@[expose] public section

noncomputable section

namespace Cert.Proof.Rope

open Cert.ReferenceIdeal Cert.ReferenceIdeal.Gen
open Idealize.ShloMosaic
open Idealize.ShloMosaic.ValueIdx (select_one select_zero select_apply)

variable {F : FTy → Type} [FloatOps F]

/-- The positions, a negative one counted from the table's end, with a last axis of one. -/
def wrapped (a : IVec S4x4096 32) : IVec S4x4096x1 32 :=
  broadcastInDim S4x4096x1 ![0, 1] bcast_S4x4096_S4x4096x1_0_1 (select (cmpi .slt a (broadcastInDim S4x4096 ![] bcast_S_S4x4096 (constantI S_ 32 0#32)))
    (addi a (broadcastInDim S4x4096 ![] bcast_S_S4x4096 (constantI S_ 32 8192#32))) a)

/-- Where a wrapped position lies in the table. -/
def inside (w : IVec S4x4096x1 32) : IVec S4x4096x1 1 :=
  andi (cmpi .sge w (broadcastInDim S4x4096x1 ![] bcast_S_S4x4096x1 (constantI S_ 32 0#32)))
    (cmpi .sle w (broadcastInDim S4x4096x1 ![0, 1, 2] bcast_S1x1x1_S4x4096x1_0_1_2 (broadcastInDim S1x1x1 ![2] bcast_S1_S1x1x1_2 (constantI S1 32 8191#32))))

/-- The reference's lookup of positions in a table. -/
def lookup (x : FVec F S8192x128 .f32) (a : IVec S4x4096 32) : FVec F S4x4096x128 .f32 :=
  select (broadcastInDim S4x4096x128 ![0, 1] bcast_S4x4096_S4x4096x128_0_1
      (Host.reduce IntOp.andi (inside (wrapped a)) (constantI S_ 1 1#1) reducesTo_S4x4096x1_S4x4096_d2 h_S_))
    (Host.gather gather_S8192x128_S4x4096x1_S4x4096x128_2_0_n_n_0_2_1128 x (wrapped a))
    (broadcastInDim S4x4096x128 ![] bcast_S_S4x4096x128 (constant S_ .f32 0x7FC00000#32))

/-- A small word, read signed, is its natural number. -/
theorem toInt_small (w : BitVec 32) (h : w.toNat < 8192) : w.toInt = w.toNat := by
  rw [BitVec.toInt_eq_toNat_cond, if_pos (by omega)]

/-- A position of the table is not moved by the wrapping. -/
theorem wrapped_at (a : IVec S4x4096 32) (r : Fin 4) (n : Fin 4096) (z : Fin 1) (h : (a (ix2 r n)).toNat < 8192) :
    wrapped a (ix3 r n z) = a (ix2 r n) := by
  pointwise [wrapped]
  have e : IntOp.cmpi .slt (a (ix2 r n)) 0#32 = 0#1 := by
    show BitVec.ofBool (BitVec.slt (a (ix2 r n)) 0#32) = 0#1
    have : BitVec.slt (a (ix2 r n)) 0#32 = false := by
      rw [BitVec.slt_eq_decide, toInt_small _ h]; simp
    rw [this]; rfl
  rw [e, select_zero]

/-- A position of the table passes the range test. -/
theorem inside_at (w : IVec S4x4096x1 32) (r : Fin 4) (n : Fin 4096) (z : Fin 1) (h : (w (ix3 r n z)).toNat < 8192) :
    inside w (ix3 r n z) = 1#1 := by
  pointwise [inside]
  have e1 : IntOp.cmpi .sge (w (ix3 r n z)) 0#32 = 1#1 := by
    show BitVec.ofBool (BitVec.sle 0#32 (w (ix3 r n z))) = 1#1
    have : BitVec.sle 0#32 (w (ix3 r n z)) = true := by
      rw [BitVec.sle_eq_decide, toInt_small _ h]; simp
    rw [this]; rfl
  have e2 : IntOp.cmpi .sle (w (ix3 r n z)) 8191#32 = 1#1 := by
    show BitVec.ofBool (BitVec.sle (w (ix3 r n z)) 8191#32) = 1#1
    have : BitVec.sle (w (ix3 r n z)) 8191#32 = true := by
      rw [BitVec.sle_eq_decide, toInt_small _ h, show (8191#32 : BitVec 32).toInt = 8191 by decide, decide_eq_true_eq]; omega
    rw [this]; rfl
  rw [e1, e2]; rfl

/-- The gather reads, at `(r, n, c)`, the operand's row at the start index, column `c`. -/
theorem rows_at {α : Type} (x : S8192x128.Idx → α) (w : IVec S4x4096x1 32) (r : Fin 4) (n : Fin 4096) (c : Fin 128)
    (p : Fin 8192) (h : (w (ix3 r n 0)).toNat = p.val) :
    Host.gather gather_S8192x128_S4x4096x1_S4x4096x128_2_0_n_n_0_2_1128 x w (ix3 r n c) = x (ix2 p c) := by
  unfold Host.gather
  congr 1
  funext k
  refine Fin.ext ?_
  show gather_S8192x128_S4x4096x1_S4x4096x128_2_0_n_n_0_2_1128.start (ix3 r n c) w k
      + gather_S8192x128_S4x4096x1_S4x4096x128_2_0_n_n_0_2_1128.batchCoord (ix3 r n c) k
      + gather_S8192x128_S4x4096x1_S4x4096x128_2_0_n_n_0_2_1128.offCoord (ix3 r n c) k = _
  rw [GatherDims.batchCoord_eq_zero _ _ _ List.not_mem_nil, Nat.add_zero]
  have hk : k = (0 : Fin 2) ∨ k = (1 : Fin 2) := by
    have := k.isLt
    by_cases h0 : k.val = 0
    · exact Or.inl (Fin.ext h0)
    · exact Or.inr (Fin.ext (by show k.val = 1; change k.val < 2 at this; omega))
  rcases hk with rfl | rfl
  · rw [GatherDims.offCoord_eq_zero _ _ _ (fun hk => ((GatherDims.mem_sKept _ _).mp hk).1 (List.mem_singleton.mpr rfl)), Nat.add_zero]
    unfold GatherDims.start
    rw [dif_pos (show (0 : Fin 2) ∈ gather_S8192x128_S4x4096x1_S4x4096x128_2_0_n_n_0_2_1128.startIndexMap from List.mem_singleton.mpr rfl)]
    have hs : gather_S8192x128_S4x4096x1_S4x4096x128_2_0_n_n_0_2_1128.siIdx (ix3 r n c)
        ⟨List.idxOf (0 : Fin 2) gather_S8192x128_S4x4096x1_S4x4096x128_2_0_n_n_0_2_1128.startIndexMap,
          List.idxOf_lt_length_iff.2 (List.mem_singleton.mpr rfl)⟩ = ix3 r n 0 := by
      funext b
      match b with
      | ⟨0, _⟩ => rfl
      | ⟨1, _⟩ => rfl
      | ⟨2, _⟩ => rfl
    show min (w (gather_S8192x128_S4x4096x1_S4x4096x128_2_0_n_n_0_2_1128.siIdx (ix3 r n c)
        ⟨List.idxOf (0 : Fin 2) gather_S8192x128_S4x4096x1_S4x4096x128_2_0_n_n_0_2_1128.startIndexMap,
          List.idxOf_lt_length_iff.2 (List.mem_singleton.mpr rfl)⟩)).toInt.toNat (8192 - 1) = p.val
    rw [hs, toInt_small _ (by rw [h]; exact p.isLt), Int.toNat_natCast, h]
    have := p.isLt
    omega
  · unfold GatherDims.start
    rw [dif_neg (show (1 : Fin 2) ∉ gather_S8192x128_S4x4096x1_S4x4096x128_2_0_n_n_0_2_1128.startIndexMap from fun h => absurd (List.mem_singleton.mp h) (by decide)), Nat.zero_add]
    rfl

/-- The reference's lookup at `(r, n, c)` is the table at the position's row, column `c`. -/
theorem lookup_at (x : FVec F S8192x128 .f32) (a : IVec S4x4096 32) (ha : ∀ j, (a j).toNat < 8192) (r : Fin 4) (n : Fin 4096) (c : Fin 128) :
    lookup x a (ix3 r n c) = x (ix2 ⟨(a (ix2 r n)).toNat, ha _⟩ c) := by
  have hw : ∀ (r : Fin 4) (n : Fin 4096) (z : Fin 1), wrapped a (ix3 r n z) = a (ix2 r n) := fun r n z => wrapped_at a r n z (ha _)
  have hm : Host.reduce IntOp.andi (inside (wrapped a)) (constantI S_ 1 1#1) reducesTo_S4x4096x1_S4x4096_d2 h_S_ = fun _ => 1#1 := by
    funext j
    refine Host.reduce_andi_one _ _ _ _ _ rfl fun i => ?_
    obtain ⟨r, n, z, rfl⟩ : ∃ (r : Fin 4) (n : Fin 4096) (z : Fin 1), i = ix3 r n z := ⟨i 0, i 1, i 2, eq_ix3 i⟩
    exact inside_at _ _ _ _ (by rw [hw]; exact ha _)
  unfold lookup
  rw [hm, select_apply]
  show Scalar.select 1#1 _ _ = _
  rw [select_one]
  exact rows_at x (wrapped a) r n c _ (by rw [hw])

end Cert.Proof.Rope

end
-- ==== Proof.Value.lean ====
/-
  The two results: the kernel's gathered rows are the reference's lookup in the cosine table, and its sines are the
  reference's lookup in the sine argument, where that argument is the table of sines.
-/
module

public import proofs.«01_k».proof.Proof.Out
public import proofs.«01_k».proof.Proof.Ref
public import proofs.«01_k».proof.Proof.Frames

@[expose] public section

noncomputable section

namespace Cert.Proof.Rope

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A place of the table, in two spellings. -/
theorem tix_eq (p : Fin 8192) (c : Fin 128) : tix p c = ix2 p c := by
  funext a
  match a with
  | 0 => rfl
  | 1 => rfl

/-- A place of the positions, in two spellings. -/
theorem pix_eq (r : Fin 4) (n : Fin 4096) : pix r n = ix2 r n := by
  funext a
  match a with
  | 0 => rfl
  | 1 => rfl

section Any
variable [FloatOps F] (m : (ℓ : Loc nD τ sig) → Buf (Elt F) ℓ)

/-- The first result, at any float values: the reference's lookup of the positions in the cosine table. -/
theorem first_result (hpre : PreOK m) (d : Dev nD) :
    V4 m d (rf main_v32) = lookup (F := F) (m (d, rf main_arg2)) (m (d, rf main_arg1)) := by
  rw [V4_v32]
  refine funext fun i : S4x4096x128.Idx => ?_
  obtain ⟨r, n, c, rfl⟩ : ∃ (r : Fin 4) (n : Fin 4096) (c : Fin 128), i = ix3 r n c := ⟨i 0, i 1, i 2, eq_ix3 i⟩
  have hL := lookup_at (F := F) (m (d, rf main_arg2)) (m (d, rf main_arg1)) (fun j => hpre d j) r n c
  refine Eq.trans ?_ hL.symm
  have e : (Shape.reshapeEquiv shapeCasts_S16384x128_S4x4096x128) (ix3 r n c)
      = (ix2 ⟨4096 * r.val + n.val, by omega⟩ c : S16384x128.Idx) := by
    refine Shape.reshapeEquiv_eq_of_vals _ _ _ _ _ (rowMajor_val2 (d := ![16384, 128]) _ 128 rfl)
      (rowMajor_val3 (d := ![4, 4096, 128]) _ 524288 128 rfl rfl) ?_
    show (4096 * r.val + n.val) * 128 + c.val = r.val * 524288 + n.val * 128 + c.val
    omega
  show gat m d ((Shape.reshapeEquiv shapeCasts_S16384x128_S4x4096x128) (ix3 r n c)) = _
  rw [e, gat_eq m hpre d _ r n c rfl rfl, tix_eq]
  simp only [pix_eq]

end Any

/-- The second result, in the extended reals: the reference's lookup of the positions in the sine argument, where that
    is the table of sines. -/
theorem second_result (m : (ℓ : Loc nD τ sig) → Buf (Elt Ideal) ℓ) (hpre : PreOK m) (d : Dev nD)
    (htab : ∀ j : S8192x128.Idx, (m (d, rf main_arg3) : FVec Ideal S8192x128 .f32) j = sinTable (F := Ideal) j) :
    V4 m d (rf main_v31) = lookup (F := Ideal) (m (d, rf main_arg3)) (m (d, rf main_arg1)) := by
  rw [V4_v31, arr_sines m d hpre]
  refine funext fun i : S4x4096x128.Idx => ?_
  obtain ⟨r, n, c, rfl⟩ : ∃ (r : Fin 4) (n : Fin 4096) (c : Fin 128), i = ix3 r n c := ⟨i 0, i 1, i 2, eq_ix3 i⟩
  have hL := lookup_at (F := Ideal) (m (d, rf main_arg3)) (m (d, rf main_arg1)) (fun j => hpre d j) r n c
  refine Eq.trans ?_ hL.symm
  rw [htab, sinTable_at]
  rfl

/-- The kernel's program and the reference end with equal results. -/
theorem algebraic : Cert.algebraic_KernelIdeal_ReferenceIdeal_pre_sin_is_cache (hKernelIdeal := Cert.KernelIdeal.Gen.facts)
    (hReferenceIdeal := Cert.ReferenceIdeal.Gen.facts) (hPre_sin_is_cache := Cert.Pre_sin_is_cache.Gen.facts) := by
  intro m g m' g' hp hagree
  have hpre : PreOK m := fun d j => (of_sin _ _ _ _ (hp d)).1 j
  refine ⟨fun c => lookup (F := Ideal) (m (c, rf main_arg2)) (m (c, rf main_arg1)),
    fun c => lookup (F := Ideal) (m (c, rf main_arg3)) (m (c, rf main_arg1)), ?_, ?_⟩
  · refine (θ_run (Cert.KernelIdeal.defs (F := Ideal)) _ _).mono (fun r h c => ?_) (run_main (F := Ideal) m g hpre)
    exact ⟨(h.1 c _ (mem_ucRefs main_v32 rfl)).trans (first_result m hpre c),
      (h.1 c _ (mem_ucRefs main_v31 rfl)).trans (second_result m hpre c fun j => eq_table _ _ _ _ (hp c) j), QC_args m h c⟩
  · refine (θ_run (Cert.ReferenceIdeal.defs (F := Ideal)) _ _).mono (fun r h c => ?_) (Cert.ReferenceIdeal.Value.run (F := Ideal) m' g')
    obtain ⟨h0, h1, h2⟩ := h c
    obtain ⟨-, a1, a2, a3⟩ := hagree c
    refine ⟨h0.trans ?_, h1.trans ?_, h2⟩
    · rw [a1, a2]; rfl
    · rw [a1, a3]; rfl

end Cert.Proof.Rope

end
-- ==== Proof.lean ====
/-
  The proof of this certificate's claim. The kernel's run is Main.lean's; the frames are Frames.lean's;
  the equality of the results is Value.lean's.
-/
module

public import proofs.«01_k».proof.Defs
public import proofs.«01_k».proof.Proof.Frames
public import proofs.«01_k».proof.Proof.Value

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_ids_in_cache.Gen.facts, Cert.Pre_sin_is_cache.Gen.facts,
    Rope.frame_kernel, Rope.frame_ideal, Rope.frame_ideal_sin, Rope.frame_reference, Rope.frame_reference_sin, trivial, Rope.algebraic⟩

end Cert.Proof

end
